-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x3968 : Shape := ⟨3, ![1, 384, 3968]⟩
abbrev S3968x13056 : Shape := ⟨2, ![3968, 13056]⟩
abbrev S31x102 : Shape := ⟨2, ![31, 102]⟩
abbrev S1x384x13056 : Shape := ⟨3, ![1, 384, 13056]⟩
abbrev S48x8x13056 : Shape := ⟨3, ![48, 8, 13056]⟩
abbrev S31x1x384 : Shape := ⟨3, ![31, 1, 384]⟩
abbrev S3968x768 : Shape := ⟨2, ![3968, 768]⟩
abbrev S1x384x768 : Shape := ⟨3, ![1, 384, 768]⟩
abbrev S48x8x768 : Shape := ⟨3, ![48, 8, 768]⟩
abbrev S384x3968 : Shape := ⟨2, ![384, 3968]⟩
abbrev S31x384x128 : Shape := ⟨3, ![31, 384, 128]⟩
abbrev S384x128 : Shape := ⟨2, ![384, 128]⟩
abbrev S1x384x128 : Shape := ⟨3, ![1, 384, 128]⟩
abbrev S384 : Shape := ⟨1, ![384]⟩
abbrev S384x1 : Shape := ⟨2, ![384, 1]⟩
abbrev S128x384 : Shape := ⟨2, ![128, 384]⟩
abbrev S31x384 : Shape := ⟨2, ![31, 384]⟩
abbrev S128x128 : Shape := ⟨2, ![128, 128]⟩
abbrev S128x256 : Shape := ⟨2, ![128, 256]⟩
abbrev S1x128x128 : Shape := ⟨3, ![1, 128, 128]⟩
abbrev S1x1 : Shape := ⟨2, ![1, 1]⟩
abbrev S16x8x128 : Shape := ⟨3, ![16, 8, 128]⟩
abbrev S1x384x31 : Shape := ⟨3, ![1, 384, 31]⟩

abbrev nBuf : Space → Nat
  | .hbm => 9
  | .vmem => 11
  | .smem => 1
  | _ => 0

abbrev bufTy : (tb : Table) → Fin (tcTables nBuf tb) → BufTy
  | .hbm, ⟨0, _⟩ => ⟨S1x384x3968, .bf16⟩
  | .hbm, ⟨1, _⟩ => ⟨S3968x13056, .fp8e4m3⟩
  | .hbm, ⟨2, _⟩ => ⟨S31x102, .f32⟩
  | .hbm, ⟨3, _⟩ => ⟨S1x384x13056, .bf16⟩
  | .hbm, ⟨4, _⟩ => ⟨S48x8x13056, .bf16⟩
  | .hbm, ⟨5, _⟩ => ⟨S1x384x3968, .fp8e4m3⟩
  | .hbm, ⟨6, _⟩ => ⟨S31x1x384, .f32⟩
  | .hbm, ⟨7, _⟩ => ⟨S1x384x13056, .bf16⟩
  | .hbm, ⟨8, _⟩ => ⟨S1x384x31, .f32⟩
  | .local _ .vmem, ⟨0, _⟩ => ⟨S1x384x3968, .bf16⟩
  | .local _ .vmem, ⟨1, _⟩ => ⟨S3968x768, .fp8e4m3⟩
  | .local _ .vmem, ⟨2, _⟩ => ⟨S3968x768, .fp8e4m3⟩
  | .local _ .vmem, ⟨3, _⟩ => ⟨S1x384x768, .bf16⟩
  | .local _ .vmem, ⟨4, _⟩ => ⟨S1x384x768, .bf16⟩
  | .local _ .vmem, ⟨5, _⟩ => ⟨S48x8x768, .bf16⟩
  | .local _ .vmem, ⟨6, _⟩ => ⟨S48x8x768, .bf16⟩
  | .local _ .vmem, ⟨7, _⟩ => ⟨S1x384x3968, .fp8e4m3⟩
  | .local _ .vmem, ⟨8, _⟩ => ⟨S31x1x384, .f32⟩
  | .local _ .vmem, ⟨9, _⟩ => ⟨S384x3968, .fp8e4m3⟩
  | .local _ .vmem, ⟨10, _⟩ => ⟨S31x384x128, .f32⟩
  | .local _ .smem, ⟨0, _⟩ => ⟨S31x102, .f32⟩
  | _, _ => ⟨S1x384x3968, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![17], ![false]⟩

def k0_off1 (i : grid0.Coords) (c0_i32_1 : BitVec 32) (c0_i32_10 : BitVec 32) : Fin 2 → Nat :=
  let c0_11 : Index := 0#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v12 : BitVec 32 := Scalar.addi v4 c0_i32_10
  let v13 : Index := Scalar.indexCast v12
  ![0, v13.toNat]
def k0_off2 (i : grid0.Coords) (c0_i32_1 : BitVec 32) (c0_i32_19 : BitVec 32) : Fin 2 → Nat :=
  let c1_20 : Index := 1#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v33 : BitVec 32 := Scalar.addi v4 c0_i32_19
  let v34 : Index := Scalar.indexCast v33
  ![1, v34.toNat]
def k0_off3 (i : grid0.Coords) (c0_i32_1 : BitVec 32) (c0_i32_29 : BitVec 32) : Fin 2 → Nat :=
  let c2_30 : Index := 2#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v54 : BitVec 32 := Scalar.addi v4 c0_i32_29
  let v55 : Index := Scalar.indexCast v54
  ![2, v55.toNat]
def k0_off4 (i : grid0.Coords) (c0_i32_1 : BitVec 32) (c0_i32_39 : BitVec 32) : Fin 2 → Nat :=
  let c3_40 : Index := 3#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v75 : BitVec 32 := Scalar.addi v4 c0_i32_39
  let v76 : Index := Scalar.indexCast v75
  ![3, v76.toNat]
def k0_off5 (i : grid0.Coords) (c0_i32_1 : BitVec 32) (c0_i32_49 : BitVec 32) : Fin 2 → Nat :=
  let c4_50 : Index := 4#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v96 : BitVec 32 := Scalar.addi v4 c0_i32_49
  let v97 : Index := Scalar.indexCast v96
  ![4, v97.toNat]
def k0_off6 (i : grid0.Coords) (c0_i32_1 : BitVec 32) (c0_i32_59 : BitVec 32) : Fin 2 → Nat :=
  let c5_60 : Index := 5#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v117 : BitVec 32 := Scalar.addi v4 c0_i32_59
  let v118 : Index := Scalar.indexCast v117
  ![5, v118.toNat]
def k0_off7 (i : grid0.Coords) (c0_i32_1 : BitVec 32) (c0_i32_69 : BitVec 32) : Fin 2 → Nat :=
  let c6_70 : Index := 6#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v138 : BitVec 32 := Scalar.addi v4 c0_i32_69
  let v139 : Index := Scalar.indexCast v138
  ![6, v139.toNat]
def k0_off8 (i : grid0.Coords) (c0_i32_1 : BitVec 32) (c0_i32_79 : BitVec 32) : Fin 2 → Nat :=
  let c7_80 : Index := 7#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v159 : BitVec 32 := Scalar.addi v4 c0_i32_79
  let v160 : Index := Scalar.indexCast v159
  ![7, v160.toNat]
def k0_off9 (i : grid0.Coords) (c0_i32_1 : BitVec 32) (c0_i32_89 : BitVec 32) : Fin 2 → Nat :=
  let c8_90 : Index := 8#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v180 : BitVec 32 := Scalar.addi v4 c0_i32_89
  let v181 : Index := Scalar.indexCast v180
  ![8, v181.toNat]
def k0_off10 (i : grid0.Coords) (c0_i32_1 : BitVec 32) (c0_i32_99 : BitVec 32) : Fin 2 → Nat :=
  let c9_100 : Index := 9#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v201 : BitVec 32 := Scalar.addi v4 c0_i32_99
  let v202 : Index := Scalar.indexCast v201
  ![9, v202.toNat]
def k0_off11 (i : grid0.Coords) (c0_i32_1 : BitVec 32) (c0_i32_109 : BitVec 32) : Fin 2 → Nat :=
  let c10_110 : Index := 10#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v222 : BitVec 32 := Scalar.addi v4 c0_i32_109
  let v223 : Index := Scalar.indexCast v222
  ![10, v223.toNat]
def k0_off12 (i : grid0.Coords) (c0_i32_1 : BitVec 32) (c0_i32_119 : BitVec 32) : Fin 2 → Nat :=
  let c11_120 : Index := 11#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v243 : BitVec 32 := Scalar.addi v4 c0_i32_119
  let v244 : Index := Scalar.indexCast v243
  ![11, v244.toNat]
def k0_off13 (i : grid0.Coords) (c0_i32_1 : BitVec 32) (c0_i32_129 : BitVec 32) : Fin 2 → Nat :=
  let c12_130 : Index := 12#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v264 : BitVec 32 := Scalar.addi v4 c0_i32_129
  let v265 : Index := Scalar.indexCast v264
  ![12, v265.toNat]
def k0_off14 (i : grid0.Coords) (c0_i32_1 : BitVec 32) (c0_i32_139 : BitVec 32) : Fin 2 → Nat :=
  let c13_140 : Index := 13#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v285 : BitVec 32 := Scalar.addi v4 c0_i32_139
  let v286 : Index := Scalar.indexCast v285
  ![13, v286.toNat]
def k0_off15 (i : grid0.Coords) (c0_i32_1 : BitVec 32) (c0_i32_149 : BitVec 32) : Fin 2 → Nat :=
  let c14_150 : Index := 14#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v306 : BitVec 32 := Scalar.addi v4 c0_i32_149
  let v307 : Index := Scalar.indexCast v306
  ![14, v307.toNat]
def k0_off16 (i : grid0.Coords) (c0_i32_1 : BitVec 32) (c0_i32_159 : BitVec 32) : Fin 2 → Nat :=
  let c15_160 : Index := 15#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v327 : BitVec 32 := Scalar.addi v4 c0_i32_159
  let v328 : Index := Scalar.indexCast v327
  ![15, v328.toNat]
def k0_off17 (i : grid0.Coords) (c0_i32_1 : BitVec 32) (c0_i32_169 : BitVec 32) : Fin 2 → Nat :=
  let c16_170 : Index := 16#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v348 : BitVec 32 := Scalar.addi v4 c0_i32_169
  let v349 : Index := Scalar.indexCast v348
  ![16, v349.toNat]
def k0_off18 (i : grid0.Coords) (c0_i32_1 : BitVec 32) (c0_i32_179 : BitVec 32) : Fin 2 → Nat :=
  let c17_180 : Index := 17#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v369 : BitVec 32 := Scalar.addi v4 c0_i32_179
  let v370 : Index := Scalar.indexCast v369
  ![17, v370.toNat]
def k0_off19 (i : grid0.Coords) (c0_i32_1 : BitVec 32) (c0_i32_189 : BitVec 32) : Fin 2 → Nat :=
  let c18_190 : Index := 18#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v390 : BitVec 32 := Scalar.addi v4 c0_i32_189
  let v391 : Index := Scalar.indexCast v390
  ![18, v391.toNat]
def k0_off20 (i : grid0.Coords) (c0_i32_1 : BitVec 32) (c0_i32_199 : BitVec 32) : Fin 2 → Nat :=
  let c19_200 : Index := 19#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v411 : BitVec 32 := Scalar.addi v4 c0_i32_199
  let v412 : Index := Scalar.indexCast v411
  ![19, v412.toNat]
def k0_off21 (i : grid0.Coords) (c0_i32_1 : BitVec 32) (c0_i32_209 : BitVec 32) : Fin 2 → Nat :=
  let c20_210 : Index := 20#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v432 : BitVec 32 := Scalar.addi v4 c0_i32_209
  let v433 : Index := Scalar.indexCast v432
  ![20, v433.toNat]
def k0_off22 (i : grid0.Coords) (c0_i32_1 : BitVec 32) (c0_i32_219 : BitVec 32) : Fin 2 → Nat :=
  let c21_220 : Index := 21#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v453 : BitVec 32 := Scalar.addi v4 c0_i32_219
  let v454 : Index := Scalar.indexCast v453
  ![21, v454.toNat]
def k0_off23 (i : grid0.Coords) (c0_i32_1 : BitVec 32) (c0_i32_229 : BitVec 32) : Fin 2 → Nat :=
  let c22_230 : Index := 22#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v474 : BitVec 32 := Scalar.addi v4 c0_i32_229
  let v475 : Index := Scalar.indexCast v474
  ![22, v475.toNat]
def k0_off24 (i : grid0.Coords) (c0_i32_1 : BitVec 32) (c0_i32_239 : BitVec 32) : Fin 2 → Nat :=
  let c23_240 : Index := 23#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v495 : BitVec 32 := Scalar.addi v4 c0_i32_239
  let v496 : Index := Scalar.indexCast v495
  ![23, v496.toNat]
def k0_off25 (i : grid0.Coords) (c0_i32_1 : BitVec 32) (c0_i32_249 : BitVec 32) : Fin 2 → Nat :=
  let c24_250 : Index := 24#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v516 : BitVec 32 := Scalar.addi v4 c0_i32_249
  let v517 : Index := Scalar.indexCast v516
  ![24, v517.toNat]
def k0_off26 (i : grid0.Coords) (c0_i32_1 : BitVec 32) (c0_i32_259 : BitVec 32) : Fin 2 → Nat :=
  let c25_260 : Index := 25#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v537 : BitVec 32 := Scalar.addi v4 c0_i32_259
  let v538 : Index := Scalar.indexCast v537
  ![25, v538.toNat]
def k0_off27 (i : grid0.Coords) (c0_i32_1 : BitVec 32) (c0_i32_269 : BitVec 32) : Fin 2 → Nat :=
  let c26_270 : Index := 26#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v558 : BitVec 32 := Scalar.addi v4 c0_i32_269
  let v559 : Index := Scalar.indexCast v558
  ![26, v559.toNat]
def k0_off28 (i : grid0.Coords) (c0_i32_1 : BitVec 32) (c0_i32_279 : BitVec 32) : Fin 2 → Nat :=
  let c27_280 : Index := 27#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v579 : BitVec 32 := Scalar.addi v4 c0_i32_279
  let v580 : Index := Scalar.indexCast v579
  ![27, v580.toNat]
def k0_off29 (i : grid0.Coords) (c0_i32_1 : BitVec 32) (c0_i32_289 : BitVec 32) : Fin 2 → Nat :=
  let c28_290 : Index := 28#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v600 : BitVec 32 := Scalar.addi v4 c0_i32_289
  let v601 : Index := Scalar.indexCast v600
  ![28, v601.toNat]
def k0_off30 (i : grid0.Coords) (c0_i32_1 : BitVec 32) (c0_i32_299 : BitVec 32) : Fin 2 → Nat :=
  let c29_300 : Index := 29#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v621 : BitVec 32 := Scalar.addi v4 c0_i32_299
  let v622 : Index := Scalar.indexCast v621
  ![29, v622.toNat]
def k0_off31 (i : grid0.Coords) (c0_i32_1 : BitVec 32) (c0_i32_309 : BitVec 32) : Fin 2 → Nat :=
  let c30_310 : Index := 30#32
  let arg0 : BitVec 32 := BitVec.ofNat 32 (i 0).val
  let c6_i32 : BitVec 32 := 6#32
  let v3 : BitVec 32 := Scalar.muli arg0 c6_i32
  let v4 : BitVec 32 := Scalar.addi v3 c0_i32_1
  let v642 : BitVec 32 := Scalar.addi v4 c0_i32_309
  let v643 : Index := Scalar.indexCast v642
  ![30, v643.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x384x3968 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3968x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S31x102 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x384x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x8x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384x3968 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x384x3968 : Shape := ⟨3, ![1, 384, 3968]⟩
abbrev S3968x13056 : Shape := ⟨2, ![3968, 13056]⟩
abbrev S31x102 : Shape := ⟨2, ![31, 102]⟩
abbrev S1x384x13056 : Shape := ⟨3, ![1, 384, 13056]⟩
abbrev S1x384x31 : Shape := ⟨3, ![1, 384, 31]⟩
abbrev S384x31x128 : Shape := ⟨3, ![384, 31, 128]⟩
abbrev S384x31 : Shape := ⟨2, ![384, 31]⟩
abbrev S384x31x1 : Shape := ⟨3, ![384, 31, 1]⟩
abbrev S384x31x252 : Shape := ⟨3, ![384, 31, 252]⟩
abbrev S31x384x128 : Shape := ⟨3, ![31, 384, 128]⟩
abbrev S31x128x13056 : Shape := ⟨3, ![31, 128, 13056]⟩
abbrev S31x384x13056 : Shape := ⟨3, ![31, 384, 13056]⟩
abbrev S31x102x1 : Shape := ⟨3, ![31, 102, 1]⟩
abbrev S31x102x128 : Shape := ⟨3, ![31, 102, 128]⟩
abbrev S31x13056 : Shape := ⟨2, ![31, 13056]⟩
abbrev S31x384 : Shape := ⟨2, ![31, 384]⟩
abbrev S31x384x1 : Shape := ⟨3, ![31, 384, 1]⟩
abbrev S31x1x13056 : Shape := ⟨3, ![31, 1, 13056]⟩
abbrev S384x13056 : Shape := ⟨2, ![384, 13056]⟩

abbrev nBuf : Space → Nat
  | .hbm => 7
  | .vmem => 7
  | .smem => 0
  | _ => 0

abbrev bufTy : (tb : Table) → Fin (tcTables nBuf tb) → BufTy
  | .hbm, ⟨0, _⟩ => ⟨S1x384x3968, .bf16⟩
  | .hbm, ⟨1, _⟩ => ⟨S3968x13056, .fp8e4m3⟩
  | .hbm, ⟨2, _⟩ => ⟨S31x102, .f32⟩
  | .hbm, ⟨3, _⟩ => ⟨S1x384x13056, .bf16⟩
  | .hbm, ⟨4, _⟩ => ⟨S1x384x13056, .bf16⟩
  | .hbm, ⟨5, _⟩ => ⟨S1x384x3968, .fp8e4m3⟩
  | .hbm, ⟨6, _⟩ => ⟨S1x384x31, .f32⟩
  | .local _ .vmem, ⟨0, _⟩ => ⟨S1x384x3968, .bf16⟩
  | .local _ .vmem, ⟨1, _⟩ => ⟨S3968x13056, .fp8e4m3⟩
  | .local _ .vmem, ⟨2, _⟩ => ⟨S31x102, .f32⟩
  | .local _ .vmem, ⟨3, _⟩ => ⟨S1x384x13056, .bf16⟩
  | .local _ .vmem, ⟨4, _⟩ => ⟨S1x384x13056, .bf16⟩
  | .local _ .vmem, ⟨5, _⟩ => ⟨S1x384x3968, .fp8e4m3⟩
  | .local _ .vmem, ⟨6, _⟩ => ⟨S1x384x31, .f32⟩
  | _, _ => ⟨S1x384x3968, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x384x3968 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3968x13056 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x102 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384x13056 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384x13056 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384x3968 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Runs.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, k0_cond1, e0]
    word_cmp
   : ∀ t : Fin grid0.N, cond0_0 (grid0.coords t) ↔ t.val % 17 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x10000 : ℕ).testBit n
/-- The table of output 5 follows the configuration's own step at every point. -/
theorem freshTab0_5_step : ∀ t : Fin cfg0.N,
    freshTab0_5 (t.val + 1) = ((cfg0.win 5).flush t || (cfg0.idle 5 (cfg0.grid.coords t) && freshTab0_5 t.val)) := by decide +kernel
/-- The table of output 5 is the configuration's `fresh`. -/
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration calls output 5 idle: the case stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x10000 : ℕ).testBit n
/-- The table of output 6 follows the configuration's own step at every point. -/
theorem freshTab0_6_step : ∀ t : Fin cfg0.N,
    freshTab0_6 (t.val + 1) = ((cfg0.win 6).flush t || (cfg0.idle 6 (cfg0.grid.coords t) && freshTab0_6 t.val)) := by decide +kernel
/-- The table of output 6 is the configuration's `fresh`. -/
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cfg0.idle 6 (grid0.coords t) = false := by decide +kernel
/-- At the points of case B the printed configuration calls output 6 idle: the case stores nothing into it. -/
theorem idleAt0_6_B : ∀ t : Fin cfg0.N, ¬cond0_0 (grid0.coords t) → cfg0.idle 6 (grid0.coords t) = true := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cfg0.fresh 6 t.val = false := by
  intro t; rw [fresh0_6_eq t]; revert t; decide +kernel

/-! ## The kernel body on any staging memrefs: a subtype the run finds -/

/-- One staging buffer of output window 4, through which its contents are stated (`View.read_writes_of_cover`: the
    choice does not matter). -/
abbrev VO0_4 : View sig .tc .vmem S48x8x768 .bf16 := (Memref.whole cc0_stg4_0 : Memref sig .tc .vmem S48x8x768 .bf16).view
/-- One staging buffer of output window 5, through which its contents are stated (`View.read_writes_of_cover`: the
    choice does not matter). -/
abbrev VO0_5 : View sig .tc .vmem S1x384x3968 .fp8e4m3 := (Memref.whole cc0_stg5_0 : Memref sig .tc .vmem S1x384x3968 .fp8e4m3).view
/-- One staging buffer of output window 6, through which its contents are stated (`View.read_writes_of_cover`: the
    choice does not matter). -/
abbrev VO0_6 : View sig .tc .vmem S31x1x384 .f32 := (Memref.whole cc0_stg6_0 : Memref sig .tc .vmem S31x1x384 .f32).view
/-- Each window's current staging memref at point `t`, spelled as the pipeline passes it (`bodyAt0`), and its wholeness. -/
abbrev ms0_0 (t : Fin cfg0.N) : Memref sig .tc .vmem S1x384x3968 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3968x768 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S31x102 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x8x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x384x3968 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S31x1x384 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S384x3968 .fp8e4m3 := Memref.whole cc0_scratch0
abbrev scM0_1 : Memref sig .tc .vmem S31x384x128 .f32 := Memref.whole cc0_scratch1
/-- The scratch `arg8` the kernel carries between points, as a view: what it holds is stated through it. -/
abbrev VS0_0 : View sig .tc .vmem S384x3968 .fp8e4m3 := scM0_0.view
/-- The scratch `arg9` the kernel carries between points, as a view: what it holds is stated through it. -/
abbrev VS0_1 : View sig .tc .vmem S31x384x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Words.lean ====
module

public import proofs.«01_k».proof.Proof.Runs

/-! What the kernel's body computes, said once with the group, the tile and the half as parameters, over any float
    type `F`: the printed body writes the same operations out for each of the 31 groups and each of the 18 tiles. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The quantiser -/

/-- The greatest absolute value of each row of a group's 384 rows. -/
def rowMax (x : Vec F S1x384x128 .bf16) : FVec F S384 .f32 :=
  multiReduction .maximumf [1] S384 (absf (extf .f32 (shapeCast S384x128 x shapeCasts_S1x384x128_S384x128) bitsLt_bf16_f32)) 0xFF800000#32 reduces_S384x128_S384 (.inl rfl) rfl

/-- The row maxima of group `g` put into lane `g`. -/
def laneStep (g : ℕ) (acc : FVec F S384x128 .f32) (x : Vec F S1x384x128 .bf16) : FVec F S384x128 .f32 :=
  select (cmpi .eq (iota .tc S384x128 32 [1] iota_S384x128_d1_w32) (broadcast S384x128 (BitVec.ofNat 32 g)))
    (broadcastTo S384x128 (shapeCast S384x1 (shapeCast S384x1 (rowMax x) shapeCasts_S384_S384x1) shapeCasts_S384x1_S384x1) broadcasts_S384x1_S384x128) acc

/-- The row maxima of the first `n` groups, each in its lane. -/
def lanes (X : Fin 31 → Vec F S1x384x128 .bf16) : (n : ℕ) → n ≤ 31 → FVec F S384x128 .f32
  | 0, _ => broadcast S384x128 (Scalar.ofBits .f32 0x00000000#32)
  | n + 1, h => laneStep n (lanes X n (Nat.le_of_succ_le h)) (X ⟨n, h⟩)

/-- The power of two of an integer exponent, made from its bits. -/
def powV (e : IVec S384x128 32) : FVec F S384x128 .f32 :=
  bitcastToFloat .f32 (shli (addi e (broadcast S384x128 127#32)) (broadcast S384x128 23#32))

/-- One step of the bisection for the exponent of `t`. -/
def bis (t : FVec F S384x128 .f32) (k : BitVec 32) (e : IVec S384x128 32) : IVec S384x128 32 :=
  select (cmpf .oge t (powV (addi e (broadcast S384x128 k)))) (addi e (broadcast S384x128 k)) e

/-- The whole bisection. -/
def bisAll (t : FVec F S384x128 .f32) : IVec S384x128 32 :=
  bis t 1#32 (bis t 2#32 (bis t 4#32 (bis t 8#32 (bis t 16#32 (bis t 32#32 (bis t 64#32 (bis t 124#32 (broadcast S384x128 4294967170#32))))))))

/-- The row maximum over the greatest code. -/
def ratio (a : FVec F S384x128 .f32) : FVec F S384x128 .f32 :=
  mulf a (broadcast S384x128 (Scalar.ofBits .f32 0x3B124925#32))

/-- The exponent of the scale, from the row maxima. -/
def expV (a : FVec F S384x128 .f32) : IVec S384x128 32 :=
  select (cmpf .oeq a (broadcast S384x128 (Scalar.ofBits .f32 0x00000000#32))) (broadcast S384x128 0#32)
    (select (andi (cmpf .oge (ratio a) (broadcast S384x128 (Scalar.ofBits .f32 0x00800000#32))) (cmpf .olt (ratio a) (broadcast S384x128 (Scalar.ofBits .f32 0x7F800000#32))))
      (addi (bisAll (ratio a)) (broadcast S384x128 1#32)) (broadcast S384x128 0#32))

/-- The scale. -/
def sclV (a : FVec F S384x128 .f32) : FVec F S384x128 .f32 := powV (expV a)

/-- The scale's reciprocal. -/
def invV (a : FVec F S384x128 .f32) : FVec F S384x128 .f32 := powV (subi (broadcast S384x128 0#32) (expV a))

/-- Lane `g` is a slice of a row. -/
theorem laneSlice (g : Fin 31) : S384x128.Slices ![0, g.val] S384x1 :=
  ⟨rfl, fun a => by have := g.isLt; fin_cases a <;> simp [S384x128, S384x1] <;> omega⟩

/-- Lane `g` spread over the row. -/
def spread (g : Fin 31) (v : FVec F S384x128 .f32) : FVec F S384x128 .f32 :=
  broadcastTo S384x128 (shapeCast S384x1 (extractStridedSlice S384x1 ![0, g.val] v (laneSlice g)) shapeCasts_S384x1_S384x1) broadcasts_S384x1_S384x128

/-- The codes of group `g`. -/
def codeV (g : Fin 31) (inv : FVec F S384x128 .f32) (x : Vec F S1x384x128 .bf16) : FVec F S384x128 .fp8e4m3 :=
  truncf .fp8e4m3 (minimumf (broadcast S384x128 (Scalar.ofBits .f32 0x43E00000#32)) (maximumf (broadcast S384x128 (Scalar.ofBits .f32 0xC3E00000#32))
    (mulf (extf .f32 (shapeCast S384x128 x shapeCasts_S1x384x128_S384x128) bitsLt_bf16_f32) (spread g inv)))) bitsLt_fp8e4m3_f32

/-- Group `g`'s columns lie in the activations. -/
theorem xInb (g : Fin 31) : ∀ a, (![0, 0, 128 * g.val] : Fin 3 → Nat) a + S1x384x128.size a ≤ S1x384x3968.size a :=
  fun a => by have := g.isLt; fin_cases a <;> simp [S1x384x3968, S1x384x128] <;> omega

/-- The load of group `g`'s activations. -/
def ldX (arg1 : Memref sig .tc .vmem S1x384x3968 .bf16) (f1 : arg1.view.ty.Contents (Elt F)) (g : Fin 31) : Vec F S1x384x128 .bf16 :=
  View.readAt (Elt F) arg1.view (Rect.unit (s := S1x384x3968) ![0, 0, 128 * g.val] S1x384x128.size (xInb g)).toLoadRect f1

/-- Group `g`'s columns lie in the codes. -/
theorem cInb (g : Fin 31) : ∀ a, (![0, 128 * g.val] : Fin 2 → Nat) a + S384x128.size a ≤ S384x3968.size a :=
  fun a => by have := g.isLt; fin_cases a <;> simp [S384x3968, S384x128] <;> omega

/-- Group `g`'s plane lies in the spread scales. -/
theorem sInb (g : Fin 31) : ∀ a, (![g.val, 0, 0] : Fin 3 → Nat) a + S1x384x128.size a ≤ S31x384x128.size a :=
  fun a => by have := g.isLt; fin_cases a <;> simp [S31x384x128, S1x384x128] <;> omega

/-- The stores of the first `n` groups' codes into the scratch, last first. -/
def codePieces (X : Fin 31 → Vec F S1x384x128 .bf16) (inv : FVec F S384x128 .f32) : (n : ℕ) → n ≤ 31 → List (View.Piece (Elt F) S384x3968 .fp8e4m3)
  | 0, _ => []
  | n + 1, h => ⟨Rect.unit (s := S384x3968) ![0, 128 * n] S384x128.size (cInb ⟨n, h⟩), shapeCast S384x128 (codeV ⟨n, h⟩ inv (X ⟨n, h⟩)) shapeCasts_S384x128_S384x128⟩
      :: codePieces X inv n (Nat.le_of_succ_le h)

/-- The stores of the first `n` groups' codes into the codes' output, last first. -/
def codeOutPieces (X : Fin 31 → Vec F S1x384x128 .bf16) (inv : FVec F S384x128 .f32) : (n : ℕ) → n ≤ 31 → List (View.Piece (Elt F) S1x384x3968 .fp8e4m3)
  | 0, _ => []
  | n + 1, h => ⟨Rect.unit (s := S1x384x3968) ![0, 0, 128 * n] S1x384x128.size (xInb ⟨n, h⟩), shapeCast S1x384x128 (codeV ⟨n, h⟩ inv (X ⟨n, h⟩)) shapeCasts_S384x128_S1x384x128⟩
      :: codeOutPieces X inv n (Nat.le_of_succ_le h)

/-- The stores of the first `n` groups' spread scales into the scratch, last first. -/
def sclPieces (scl : FVec F S384x128 .f32) : (n : ℕ) → n ≤ 31 → List (View.Piece (Elt F) S31x384x128 .f32)
  | 0, _ => []
  | n + 1, h => ⟨Rect.unit (s := S31x384x128) ![n, 0, 0] S1x384x128.size (sInb ⟨n, h⟩), shapeCast S1x384x128 (spread ⟨n, h⟩ scl) shapeCasts_S384x128_S1x384x128⟩
      :: sclPieces scl n (Nat.le_of_succ_le h)

/-! ## The product -/

/-- The offsets of the weight scale of group `g`, tile `a`, half `b` at a grid point. -/
def wsOff (g : ℕ) (i : grid0.Coords) (a b : BitVec 32) : Fin 2 → Nat :=
  ![g, (Scalar.indexCast (Scalar.addi (Scalar.addi (Scalar.muli (BitVec.ofNat 32 (i 0).val) 6#32) a) b)).toNat]

/-- The column they name: six columns a point, two a tile. -/
theorem wsOff_one : ∀ (i : grid0.Coords) (nt : Fin 3) (h : Fin 2),
    (Scalar.indexCast (Scalar.addi (Scalar.addi (Scalar.muli (BitVec.ofNat 32 (i 0).val) 6#32) (BitVec.ofNat 32 (2 * nt.val))) (BitVec.ofNat 32 h.val))).toNat
      = 6 * (i 0).val + 2 * nt.val + h.val := by decide +kernel

/-- They lie in the table. -/
theorem wsInb (g : Fin 31) (i : grid0.Coords) (nt : Fin 3) (h : Fin 2) :
    ∀ a, (wsOff g.val i (BitVec.ofNat 32 (2 * nt.val)) (BitVec.ofNat 32 h.val)) a + S1x1.size a ≤ S31x102.size a := by
  intro a
  have hi : (i 0).val < 17 := (i 0).isLt
  have hg := g.isLt; have hn := nt.isLt; have hh := h.isLt
  unfold wsOff
  rw [wsOff_one]
  fin_cases a <;> simp [S31x102, S1x1] <;> omega

/-- A tile of the codes. -/
theorem ctInb (mt : Fin 3) (g : Fin 31) : ∀ a, (![128 * mt.val, 128 * g.val] : Fin 2 → Nat) a + S128x128.size a ≤ S384x3968.size a :=
  fun a => by have := g.isLt; have := mt.isLt; fin_cases a <;> simp [S384x3968, S128x128] <;> omega

/-- A tile of the weights. -/
theorem wtInb (nt : Fin 3) (g : Fin 31) : ∀ a, (![128 * g.val, 256 * nt.val] : Fin 2 → Nat) a + S128x256.size a ≤ S3968x768.size a :=
  fun a => by have := g.isLt; have := nt.isLt; fin_cases a <;> simp [S3968x768, S128x256] <;> omega

/-- A tile of the spread scales. -/
theorem stInb (mt : Fin 3) (g : Fin 31) : ∀ a, (![g.val, 128 * mt.val, 0] : Fin 3 → Nat) a + S1x128x128.size a ≤ S31x384x128.size a :=
  fun a => by have := g.isLt; have := mt.isLt; fin_cases a <;> simp [S31x384x128, S1x128x128] <;> omega

/-- A tile of the residual. -/
theorem rtInb (mt nt : Fin 3) (h : Fin 2) : ∀ a, (![0, 128 * mt.val, 256 * nt.val + 128 * h.val] : Fin 3 → Nat) a + S1x128x128.size a ≤ S1x384x768.size a :=
  fun a => by have := h.isLt; have := mt.isLt; have := nt.isLt; fin_cases a <;> simp [S1x384x768, S1x128x128] <;> omega

/-- A tile of the result's block. -/
theorem ytInb (mt nt : Fin 3) (h : Fin 2) : ∀ a, (![16 * mt.val, 0, 256 * nt.val + 128 * h.val] : Fin 3 → Nat) a + S16x8x128.size a ≤ S48x8x768.size a :=
  fun a => by have := h.isLt; have := mt.isLt; have := nt.isLt; fin_cases a <;> simp [S48x8x768, S16x8x128] <;> omega

/-- Half `h` of a 256-wide tile. -/
theorem halfSlice (h : Fin 2) : S128x256.Slices ![0, 128 * h.val] S128x128 :=
  ⟨rfl, fun a => by have := h.isLt; fin_cases a <;> simp [S128x256, S128x128] <;> omega⟩

/-- One group's term of a tile: its product, half of it, times the scale of the rows and the weights' scale. -/
def yTerm (h : Fin 2) (C : Vec F S128x128 .fp8e4m3) (W : Vec F S128x256 .fp8e4m3) (X : Vec F S1x128x128 .f32) (s : Elt F .f32) : FVec F S128x128 .f32 :=
  mulf (extractStridedSlice S128x128 ![0, 128 * h.val] (matmul dot_S128x128_S128x256_S128x256_1_0_0_1_n_n none C W (constant S128x256 .f32 0x00000000#32)) (halfSlice h))
    (mulf (shapeCast S128x128 X shapeCasts_S1x128x128_S128x128) (broadcast S128x128 s))

/-- The sum of the first `n` groups' terms, from zero. -/
def yChain (h : Fin 2) (C : Fin 31 → Vec F S128x128 .fp8e4m3) (W : Fin 31 → Vec F S128x256 .fp8e4m3) (X : Fin 31 → Vec F S1x128x128 .f32) (s : Fin 31 → Elt F .f32) :
    (n : ℕ) → n ≤ 31 → FVec F S128x128 .f32
  | 0, _ => broadcast S128x128 (Scalar.ofBits .f32 0x00000000#32)
  | n + 1, hn => addf (yChain h C W X s n (Nat.le_of_succ_le hn)) (yTerm h (C ⟨n, hn⟩) (W ⟨n, hn⟩) (X ⟨n, hn⟩) (s ⟨n, hn⟩))

/-- A tile of the result: the sum, plus the residual, rounded. -/
def yTile (h : Fin 2) (C : Fin 31 → Vec F S128x128 .fp8e4m3) (W : Fin 31 → Vec F S128x256 .fp8e4m3) (X : Fin 31 → Vec F S1x128x128 .f32) (s : Fin 31 → Elt F .f32)
    (R : Vec F S1x128x128 .bf16) : FVec F S16x8x128 .bf16 :=
  truncf .bf16 (shapeCast S16x8x128 (addf (yChain h C W X s 31 le_rfl) (extf .f32 (shapeCast S128x128 R shapeCasts_S1x128x128_S128x128) bitsLt_bf16_f32)) shapeCasts_S128x128_S16x8x128) bitsLt_bf16_f32

variable (i : grid0.Coords)
  (arg2 : Memref sig .tc .vmem S3968x768 .fp8e4m3) (f2 : arg2.view.ty.Contents (Elt F))
  (arg3 : Memref sig .tc .smem S31x102 .f32) (f3 : arg3.view.ty.Contents (Elt F))
  (arg4 : Memref sig .tc .vmem S1x384x768 .bf16) (f4 : arg4.view.ty.Contents (Elt F))
  (arg8 : Memref sig .tc .vmem S384x3968 .fp8e4m3) (f8 : arg8.view.ty.Contents (Elt F))
  (arg9 : Memref sig .tc .vmem S31x384x128 .f32) (f9 : arg9.view.ty.Contents (Elt F))

/-- The load of a tile of the codes. -/
def ldC (mt : Fin 3) (g : Fin 31) : Vec F S128x128 .fp8e4m3 :=
  View.readAt (Elt F) arg8.view (Rect.unit (s := S384x3968) ![128 * mt.val, 128 * g.val] S128x128.size (ctInb mt g)).toLoadRect f8

/-- The load of a tile of the weights. -/
def ldW (nt : Fin 3) (g : Fin 31) : Vec F S128x256 .fp8e4m3 :=
  View.readAt (Elt F) arg2.view (Rect.unit (s := S3968x768) ![128 * g.val, 256 * nt.val] S128x256.size (wtInb nt g)).toLoadRect f2

/-- The load of a tile of the spread scales. -/
def ldS (mt : Fin 3) (g : Fin 31) : Vec F S1x128x128 .f32 :=
  View.readAt (Elt F) arg9.view (Rect.unit (s := S31x384x128) ![g.val, 128 * mt.val, 0] S1x128x128.size (stInb mt g)).toLoadRect f9

/-- The load of a weight scale. -/
def ldWs (nt : Fin 3) (h : Fin 2) (g : Fin 31) : Elt F .f32 :=
  View.readAt (Elt F) arg3.view (Rect.unit (s := S31x102) (wsOff g.val i (BitVec.ofNat 32 (2 * nt.val)) (BitVec.ofNat 32 h.val)) S1x1.size (wsInb g i nt h)).toLoadRect f3
    (Shape.Idx.first (s := S1x1) (by decide))

/-- The load of a tile of the residual. -/
def ldR (mt nt : Fin 3) (h : Fin 2) : Vec F S1x128x128 .bf16 :=
  View.readAt (Elt F) arg4.view (Rect.unit (s := S1x384x768) ![0, 128 * mt.val, 256 * nt.val + 128 * h.val] S1x128x128.size (rtInb mt nt h)).toLoadRect f4

/-- The store of one tile of the result. -/
def yPiece (mt nt : Fin 3) (h : Fin 2) : View.Piece (Elt F) S48x8x768 .bf16 :=
  ⟨Rect.unit (s := S48x8x768) ![16 * mt.val, 0, 256 * nt.val + 128 * h.val] S16x8x128.size (ytInb mt nt h),
    yTile h (ldC arg8 f8 mt) (ldW arg2 f2 nt) (ldS arg9 f9 mt) (ldWs i arg3 f3 nt h) (ldR arg4 f4 mt nt h)⟩

/-- The first `n` stores of tiles, last first: halves fastest, then the row tiles, then the column tiles. -/
def yPieces : (n : ℕ) → n ≤ 18 → List (View.Piece (Elt F) S48x8x768 .bf16)
  | 0, _ => []
  | n + 1, hn => yPiece i arg2 f2 arg3 f3 arg4 f4 arg8 f8 arg9 f9 ⟨n % 6 / 2, by omega⟩ ⟨n / 6, by omega⟩ ⟨n % 2, by omega⟩
      :: yPieces n (Nat.le_of_succ_le hn)

end Cert.KernelIdeal.Hand

end
-- ==== Proof.Pure.lean ====
module

public import Idealize.ShloMosaic.Lib.Pointwise

/-! The exponent of a scale, on one extended real: the bisection over exponents made from bits and the greatest exponent
    whose power of two is not above the value are the same integer, and a power of two made from bits is `exp2`. -/

@[expose] public section

set_option maxRecDepth 16384

noncomputable section

namespace Cert.Pure

open Idealize.ShloMosaic
open scoped BigOperators

/-- The power of two of an integer, as an extended real. -/
def pow2 (n : ℤ) : EReal := (((2 : ℝ) ^ n : ℝ) : EReal)

/-- Powers of two are ordered as their exponents. -/
theorem pow2_le {a b : ℤ} : pow2 a ≤ pow2 b ↔ a ≤ b := by
  unfold pow2
  rw [EReal.coe_le_coe_iff]
  exact zpow_le_zpow_iff_right₀ (by norm_num)

/-- Powers of two are ordered strictly as their exponents. -/
theorem pow2_lt {a b : ℤ} : pow2 a < pow2 b ↔ a < b := by
  rw [← not_le, pow2_le, not_le]

/-- The float whose exponent field is made from the integer `e`. -/
def powS (e : BitVec 32) : EReal := Ideal.ofBits .f32 ((e + 127#32) <<< (23#32).toNat)

/-- The fields of those bits, at every exponent of a normal float. -/
theorem powS_fields : ∀ k : Fin 254,
    (((BitVec.ofInt 32 ((k.val : ℤ) - 126) + 127#32) <<< (23#32).toNat).extractLsb' 31 1 = 0#1)
    ∧ (((BitVec.ofInt 32 ((k.val : ℤ) - 126) + 127#32) <<< (23#32).toNat).extractLsb' 23 8).toNat = k.val + 1
    ∧ (((BitVec.ofInt 32 ((k.val : ℤ) - 126) + 127#32) <<< (23#32).toNat).extractLsb' 0 23).toNat = 0 := by
  decide +kernel

/-- A positive normal float with a zero significand is a power of two. -/
theorem ieee_pow2 (b : BitVec 32) (k : ℕ) (hk : k < 254) (h1 : b.extractLsb' 31 1 = 0#1) (h2 : (b.extractLsb' 23 8).toNat = k + 1)
    (h3 : (b.extractLsb' 0 23).toNat = 0) : Ideal.ofBits .f32 b = pow2 ((k : ℤ) - 126) := by
  show Ideal.ieee 8 23 b = _
  unfold Ideal.ieee pow2
  simp only [Nat.reduceAdd, h1, h2, h3, BEq.rfl]
  rw [if_neg (by omega), if_neg (by omega)]
  rw [EReal.coe_eq_coe_iff]
  rw [show ((0#1 == 1#1) = false) from rfl, if_neg (by simp), one_mul]
  have e23 : (((2 ^ 23 + 0 : ℕ) : ℕ) : ℝ) = (2 : ℝ) ^ (23 : ℤ) := by norm_num
  rw [e23, ← zpow_add₀ (by norm_num)]
  congr 1
  push_cast
  ring

/-- It is the power of two, at every exponent of a normal float. -/
theorem powS_eq (n : ℤ) (h : -126 ≤ n) (h' : n ≤ 127) : powS (BitVec.ofInt 32 n) = pow2 n := by
  obtain ⟨k, rfl⟩ : ∃ k : ℕ, n = (k : ℤ) - 126 := ⟨(n + 126).toNat, by omega⟩
  have hk : k < 254 := by omega
  exact ieee_pow2 _ k hk (powS_fields ⟨k, hk⟩).1 (powS_fields ⟨k, hk⟩).2.1 (powS_fields ⟨k, hk⟩).2.2

/-- `exp2` at an integer is the power of two. -/
theorem exp2_int (n : ℤ) : Ideal.exp2 (((n : ℝ)) : EReal) = pow2 n := by
  rw [Ideal.exp2_coe]
  unfold pow2
  exact congrArg _ (Real.rpow_intCast 2 n)

/-- One step of the bisection. -/
def bisS (t : EReal) (k e : BitVec 32) : BitVec 32 := if powS (e + k) ≤ t then e + k else e

/-- The bisection. -/
def bisAllS (t : EReal) : BitVec 32 :=
  bisS t 1#32 (bisS t 2#32 (bisS t 4#32 (bisS t 8#32 (bisS t 16#32 (bisS t 32#32 (bisS t 64#32 (bisS t 124#32 4294967170#32)))))))

/-- What the bisection keeps: the exponent sought lies among the `w` from `n` on. -/
def Inv (t : EReal) (n w : ℤ) : Prop :=
  -126 ≤ n ∧ n + w ≤ 126 ∧ (n = -126 ∨ pow2 n ≤ t) ∧ (n + w = 126 ∨ t < pow2 (n + w))

/-- One step halves the candidates. -/
theorem inv_step {t : EReal} {k : ℕ} {e : BitVec 32} (hk : 0 < k) (hk' : k ≤ 64) (h : ∃ n, e = BitVec.ofInt 32 n ∧ Inv t n (2 * k)) :
    ∃ n, bisS t (BitVec.ofNat 32 k) e = BitVec.ofInt 32 n ∧ Inv t n k := by
  obtain ⟨n, rfl, h1, h2, h3, h4⟩ := h
  have e1 : BitVec.ofInt 32 n + BitVec.ofNat 32 k = BitVec.ofInt 32 (n + k) := by
    rw [BitVec.ofInt_add, BitVec.ofInt_natCast]
  unfold bisS
  rw [e1, powS_eq _ (by omega) (by omega)]
  split
  case isTrue hp =>
    exact ⟨n + k, rfl, by omega, by omega, .inr hp, by rwa [show n + (k : ℤ) + k = n + 2 * k by ring]⟩
  case isFalse hp =>
    exact ⟨n, rfl, h1, by omega, h3, .inr (not_le.mp hp)⟩

/-- The first step leaves 128 candidates. -/
theorem inv_first (t : EReal) : ∃ n, bisS t 124#32 4294967170#32 = BitVec.ofInt 32 n ∧ Inv t n 128 := by
  unfold bisS
  rw [show (4294967170#32 + 124#32) = BitVec.ofInt 32 (-2) by decide, show 4294967170#32 = BitVec.ofInt 32 (-126) by decide,
    powS_eq _ (by omega) (by omega)]
  split
  case isTrue hp => exact ⟨-2, rfl, by omega, by omega, .inr hp, .inl (by omega)⟩
  case isFalse hp => exact ⟨-126, rfl, by omega, by omega, .inl rfl, .inr ((not_le.mp hp).trans (pow2_lt.mpr (by omega)))⟩

/-- The bisection finds the exponent. -/
theorem inv_all (t : EReal) : ∃ n, bisAllS t = BitVec.ofInt 32 n ∧ Inv t n 1 :=
  inv_step (k := 1) (by omega) (by omega) <| inv_step (k := 2) (by omega) (by omega) <| inv_step (k := 4) (by omega) (by omega) <|
    inv_step (k := 8) (by omega) (by omega) <| inv_step (k := 16) (by omega) (by omega) <| inv_step (k := 32) (by omega) (by omega) <|
    inv_step (k := 64) (by omega) (by omega) <| inv_first t

/-- The reference's exponent before its guard: the greatest of the 252 exponents whose power of two is not above `t`. -/
def scanS (t : EReal) : EReal :=
  Finset.univ.fold max (⊥ : EReal) fun k : Fin 252 => if pow2 ((k.val : ℤ) - 126) ≤ t then ((((k.val : ℤ) - 126 : ℤ) : ℝ) : EReal) else (((-126 : ℤ) : ℝ) : EReal)

/-- It is the exponent the bisection finds. -/
theorem scanS_eq {t : EReal} {n : ℤ} (h : Inv t n 1) : scanS t = ((n : ℝ) : EReal) := by
  obtain ⟨h1, h2, h3, h4⟩ := h
  have cle : ∀ {a b : ℤ}, a ≤ b → ((a : ℝ) : EReal) ≤ ((b : ℝ) : EReal) := fun h => by
    rw [EReal.coe_le_coe_iff]; exact_mod_cast h
  unfold scanS
  apply le_antisymm
  · rw [Finset.fold_max_le]
    refine ⟨bot_le, fun k _ => ?_⟩
    have hk := k.isLt
    split
    case isTrue hp =>
      apply cle
      rcases h4 with h4 | h4
      · omega
      · have := pow2_lt.mp (hp.trans_lt h4); omega
    case isFalse hp => exact cle h1
  · rw [Finset.le_fold_max]
    refine .inr ⟨⟨(n + 126).toNat, by omega⟩, Finset.mem_univ _, ?_⟩
    have e1 : (((n + 126).toNat : ℕ) : ℤ) - 126 = n := by omega
    simp only [e1]
    split
    case isTrue hp => exact le_rfl
    case isFalse hp =>
      rcases h3 with h3 | h3
      · exact cle (by omega)
      · exact absurd h3 hp

/-- The kernel's exponent, of a row maximum `a` whose ratio is `t`. -/
def expS (a t : EReal) : BitVec 32 :=
  if a = 0 then 0#32 else if pow2 (-126) ≤ t ∧ t < ⊤ then bisAllS t + 1#32 else 0#32

/-- The reference's exponent. -/
def expR (t : EReal) : EReal := if pow2 (-126) ≤ t ∧ t < ⊤ then scanS t + 1 else 0

/-- The two exponents are one integer. -/
theorem exp_agree (a t : EReal) (h : a = 0 → t = 0) :
    ∃ n : ℤ, -126 ≤ n ∧ n ≤ 126 ∧ expS a t = BitVec.ofInt 32 n ∧ expR t = ((n : ℝ) : EReal) := by
  obtain ⟨n, e1, hi⟩ := inv_all t
  have e2 := scanS_eq hi
  obtain ⟨h1, h2, -, -⟩ := hi
  unfold expS expR
  by_cases ha : a = 0
  · rw [if_pos ha, h ha, if_neg]
    · exact ⟨0, by omega, by omega, by decide, by simp⟩
    · rintro ⟨h0, -⟩
      have : (0 : EReal) < pow2 (-126) := by
        unfold pow2; rw [← EReal.coe_zero, EReal.coe_lt_coe_iff]; positivity
      exact absurd h0 (not_le.mpr this)
  · rw [if_neg ha]
    split
    · refine ⟨n + 1, by omega, by omega, ?_, ?_⟩
      · rw [e1, BitVec.ofInt_add]; rfl
      · rw [e2]; push_cast; rfl
    · exact ⟨0, by omega, by omega, by decide, by simp⟩

/-- So the scales agree. -/
theorem scale_agree (a t : EReal) (h : a = 0 → t = 0) : powS (expS a t) = Ideal.exp2 (expR t) := by
  obtain ⟨n, h1, h2, e1, e2⟩ := exp_agree a t h
  rw [e1, e2, exp2_int, powS_eq n (by omega) (by omega)]

/-- And so do their reciprocals. -/
theorem inv_agree (a t : EReal) (h : a = 0 → t = 0) : powS (0#32 - expS a t) = Ideal.exp2 (0 - expR t) := by
  obtain ⟨n, h1, h2, e1, e2⟩ := exp_agree a t h
  have e3 : (0#32 - BitVec.ofInt 32 n) = BitVec.ofInt 32 (-n) := by
    rw [BitVec.ofInt_neg, BitVec.zero_sub]
  have e4 : (0 : EReal) - ((n : ℝ) : EReal) = (((-n : ℤ) : ℝ) : EReal) := by
    push_cast; rw [zero_sub]
  rw [e1, e2, e3, e4, exp2_int, powS_eq (-n) (by omega) (by omega)]

/-! ## The words of a row -/

/-- The greatest absolute value of a row's 128 entries. -/
def rowMaxS (f : Fin 128 → EReal) : EReal :=
  Finset.univ.fold max (Ideal.ofBits .f32 0xFF800000#32) fun k => FloatOps.absf (F := Ideal) (φ := .f32) (f k)

/-- It over the greatest code. -/
def ratS (a : EReal) : EReal := a * Ideal.ofBits .f32 0x3B124925#32

/-- The scale of a row maximum. -/
def scaleS (a : EReal) : EReal := powS (expS a (ratS a))

/-- Its reciprocal. -/
def invS (a : EReal) : EReal := powS (0#32 - expS a (ratS a))

/-- The code of an entry under a reciprocal scale. -/
def codeS (x i : EReal) : EReal := min (Ideal.ofBits .f32 0x43E00000#32) (max (Ideal.ofBits .f32 0xC3E00000#32) (x * i))

/-- A zero row maximum has a zero ratio. -/
theorem ratS_zero (a : EReal) (h : a = 0) : ratS a = 0 := by
  unfold ratS; rw [h, zero_mul]

/-- The least normal float. -/
theorem ofBits_min : Ideal.ofBits .f32 0x00800000#32 = pow2 (-126) := by
  have h := ieee_pow2 0x00800000#32 0 (by omega) (by decide) (by decide) (by decide)
  simpa using h

/-- The infinity. -/
theorem ofBits_top : Ideal.ofBits .f32 0x7F800000#32 = ⊤ := by
  simp [Ideal.ofBits, Ideal.ieee]

/-- The negative infinity. -/
theorem ofBits_bot : Ideal.ofBits .f32 0xFF800000#32 = ⊥ := by
  simp [Ideal.ofBits, Ideal.ieee]

/-- Minus 126. -/
theorem ofBits_m126 : Ideal.ofBits .f32 0xC2FC0000#32 = (((-126 : ℤ) : ℝ) : EReal) := by
  simp [Ideal.ofBits, Ideal.ieee, -EReal.coe_mul]; norm_num

/-- A selection on two conditions together. -/
theorem select_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, Scalar.select, IntOp.andi]

/-- The integers -126, …, 125 as the words make them. -/
theorem toInt_sub : ∀ k : Fin 252, (IntOp.subi (BitVec.ofNat 32 k.val) 126#32).toInt = (k.val : ℤ) - 126 := by
  decide +kernel

/-- The scale as the reference makes it. -/
theorem scaleS_eq (a : EReal) : scaleS a = Ideal.exp2 (expR (ratS a)) := scale_agree a (ratS a) (ratS_zero a)

/-- The reciprocal as the reference makes it. -/
theorem invS_eq (a : EReal) : invS a = Ideal.exp2 (0 - expR (ratS a)) := inv_agree a (ratS a) (ratS_zero a)

end Cert.Pure

end
-- ==== Proof.KerRead.lean ====
module

public import proofs.«01_k».proof.Proof.Words
public import proofs.«01_k».proof.Proof.Pure
public import Idealize.ShloMosaic.Lib.WordCmp

/-! What the kernel's body computes, read at an index, over the extended reals. -/

@[expose] public section

set_option maxRecDepth 16384

noncomputable section

namespace Cert.KernelIdeal.Hand

open Cert.KernelIdeal Cert.KernelIdeal.Gen
open Idealize.ShloMosaic Idealize.ShloMosaic.TcCoe
open scoped BigOperators

/-- A group's row maxima at an index. -/
theorem rowMax_apply (x : Vec Ideal S1x384x128 .bf16) (r : Fin 384) : rowMax (F := Ideal) x (ix1 r) = Pure.rowMaxS fun k => x (ix3 0 r k) := by
  pointwise [rowMax]
  rfl

/-- One group's lane at an index. -/
theorem laneStep_apply (n : ℕ) (hn : n < 31) (acc : FVec Ideal S384x128 .f32) (x : Vec Ideal S1x384x128 .bf16) (r : Fin 384) (l : Fin 128) :
    laneStep (F := Ideal) n acc x (ix2 r l) = if l.val = n then Pure.rowMaxS fun k => x (ix3 0 r k) else acc (ix2 r l) := by
  pointwise [laneStep]
  rw [rowMax_apply]
  have hl := l.isLt
  by_cases h : l.val = n
  · rw [if_pos h, h]
    exact WordCmp.select_of_eq_one ((WordCmp.cmpi_eq_ofNat_eq_one_iff (w := 32) (a := n) (b := n) (by omega) (by omega)).2 rfl) _ _
  · rw [if_neg h]
    exact WordCmp.select_of_eq_zero ((WordCmp.cmpi_eq_ofNat_eq_zero_iff (w := 32) (a := l.val) (b := n) (by omega) (by omega)).2 h) _ _

/-- The lanes at an index of one of the first `n` groups. -/
theorem lanes_apply (X : Fin 31 → Vec Ideal S1x384x128 .bf16) (r : Fin 384) (g : Fin 31) : ∀ (n : ℕ) (hn : n ≤ 31), g.val < n →
    lanes (F := Ideal) X n hn (ix2 r ⟨g.val, by omega⟩) = Pure.rowMaxS fun k => X g (ix3 0 r k)
  | 0, _, h => absurd h (by omega)
  | n + 1, hn, h => by
    unfold lanes
    rw [laneStep_apply n (by omega)]
    by_cases hg : g.val = n
    · rw [if_pos hg]
      have e : g = ⟨n, hn⟩ := Fin.ext hg
      rw [e]
    · rw [if_neg hg]
      exact lanes_apply X r g n _ (by omega)

/-- A power of two at an index. -/
theorem powV_apply (e : IVec S384x128 32) (j : S384x128.Idx) : powV (F := Ideal) e j = Pure.powS (e j) := rfl

/-- A step of the bisection at an index. -/
theorem bis_apply (t : FVec Ideal S384x128 .f32) (k : BitVec 32) (e : IVec S384x128 32) (r : Fin 384) (l : Fin 128) :
    bis (F := Ideal) t k e (ix2 r l) = Pure.bisS (t (ix2 r l)) k (e (ix2 r l)) := by
  pointwise [bis]
  rfl

/-- The bisection at an index. -/
theorem bisAll_apply (t : FVec Ideal S384x128 .f32) (r : Fin 384) (l : Fin 128) :
    bisAll (F := Ideal) t (ix2 r l) = Pure.bisAllS (t (ix2 r l)) := by
  unfold bisAll
  simp only [bis_apply]
  rfl

/-- The exponent at an index. -/
theorem expV_apply (a : FVec Ideal S384x128 .f32) (r : Fin 384) (l : Fin 128) :
    expV (F := Ideal) a (ix2 r l) = Pure.expS (a (ix2 r l)) (Pure.ratS (a (ix2 r l))) := by
  pointwise [expV, ratio]
  rw [Pure.select_and, Pure.ofBits_min, Pure.ofBits_top, bisAll_apply]
  rfl

/-- The scale at an index. -/
theorem sclV_apply (a : FVec Ideal S384x128 .f32) (r : Fin 384) (l : Fin 128) :
    sclV (F := Ideal) a (ix2 r l) = Pure.scaleS (a (ix2 r l)) := by
  unfold sclV
  rw [powV_apply, expV_apply]
  rfl

/-- Its reciprocal at an index. -/
theorem invV_apply (a : FVec Ideal S384x128 .f32) (r : Fin 384) (l : Fin 128) :
    invV (F := Ideal) a (ix2 r l) = Pure.invS (a (ix2 r l)) := by
  unfold invV
  rw [powV_apply]
  show Pure.powS (0#32 - expV (F := Ideal) a (ix2 r l)) = _
  rw [expV_apply]
  rfl

/-- A spread lane at an index. -/
theorem spread_apply (g : Fin 31) (v : FVec Ideal S384x128 .f32) (r : Fin 384) (l : Fin 128) :
    spread (F := Ideal) g v (ix2 r l) = v (ix2 r ⟨g.val, by omega⟩) := by
  pointwise [spread]

/-- A group's codes at an index. -/
theorem codeV_apply (g : Fin 31) (inv : FVec Ideal S384x128 .f32) (x : Vec Ideal S1x384x128 .bf16) (r : Fin 384) (l : Fin 128) :
    codeV (F := Ideal) g inv x (ix2 r l) = Pure.codeS (x (ix3 0 r l)) (inv (ix2 r ⟨g.val, by omega⟩)) := by
  pointwise [codeV, spread]
  rfl

/-- A group's term of a tile at an index. -/
theorem yTerm_apply (h : Fin 2) (C : Vec Ideal S128x128 .fp8e4m3) (W : Vec Ideal S128x256 .fp8e4m3) (X : Vec Ideal S1x128x128 .f32) (s : Elt Ideal .f32) (r l : Fin 128) :
    yTerm (F := Ideal) h C W X s (ix2 r l)
      = (∑ k : Fin 128, C (ix2 r k) * W (ix2 k ⟨128 * h.val + l.val, by omega⟩)) * ((show EReal from X (ix3 0 r l)) * (show EReal from s)) := by
  pointwise [yTerm]

/-- The groups' sum at an index. -/
theorem yChain_apply (h : Fin 2) (C : Fin 31 → Vec Ideal S128x128 .fp8e4m3) (W : Fin 31 → Vec Ideal S128x256 .fp8e4m3) (X : Fin 31 → Vec Ideal S1x128x128 .f32)
    (s : Fin 31 → Elt Ideal .f32) (j : S128x128.Idx) : ∀ (n : ℕ) (hn : n ≤ 31),
    yChain (F := Ideal) h C W X s n hn j = ∑ g : Fin n, (show EReal from yTerm (F := Ideal) h (C ⟨g.val, by omega⟩) (W ⟨g.val, by omega⟩) (X ⟨g.val, by omega⟩) (s ⟨g.val, by omega⟩) j)
  | 0, _ => by
    show Ideal.ofBits .f32 0x00000000#32 = _
    rw [Ideal.ofBits_zero_f32]
    simp
  | n + 1, hn => by
    rw [Fin.sum_univ_castSucc]
    show yChain (F := Ideal) h C W X s n _ j + yTerm (F := Ideal) h (C ⟨n, hn⟩) (W ⟨n, hn⟩) (X ⟨n, hn⟩) (s ⟨n, hn⟩) j = _
    rw [yChain_apply h C W X s j n _]
    rfl

/-- A tile of the result at an index. -/
theorem yTile_apply (h : Fin 2) (C : Fin 31 → Vec Ideal S128x128 .fp8e4m3) (W : Fin 31 → Vec Ideal S128x256 .fp8e4m3) (X : Fin 31 → Vec Ideal S1x128x128 .f32)
    (s : Fin 31 → Elt Ideal .f32) (R : Vec Ideal S1x128x128 .bf16) (a : Fin 16) (b : Fin 8) (l : Fin 128) :
    yTile (F := Ideal) h C W X s R (ix3 a b l)
      = (∑ g : Fin 31, (∑ k : Fin 128, C g (ix2 ⟨a.val * 8 + b.val, by omega⟩ k) * W g (ix2 k ⟨128 * h.val + l.val, by omega⟩))
          * ((show EReal from X g (ix3 0 ⟨a.val * 8 + b.val, by omega⟩ l)) * (show EReal from s g)))
        + R (ix3 0 ⟨a.val * 8 + b.val, by omega⟩ l) := by
  pointwise [yTile]
  rw [yChain_apply]
  congr 1
  refine Finset.sum_congr rfl fun g _ => ?_
  exact yTerm_apply h (C g) (W g) (X g) (s g) _ l

/-- The scales' output at an index. -/
theorem pay27_apply (scl : FVec Ideal S384x128 .f32) (g : Fin 31) (r : Fin 384) : k0_pay27 (F := Ideal) scl (ix3 g 0 r) = scl (ix2 r ⟨g.val, by omega⟩) := by
  pointwise [k0_pay27]

end Cert.KernelIdeal.Hand

end
-- ==== Proof.RunA.lean ====
module

public import proofs.«01_k».proof.Proof.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 13424000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) :
    Σ' (L4 : List (View.Piece (Elt F) S48x8x768 .bf16)), Σ' (L5 : List (View.Piece (Elt F) S1x384x3968 .fp8e4m3)), Σ' (L6 : List (View.Piece (Elt F) S31x1x384 .f32)), Σ' (LS0 : List (View.Piece (Elt F) S384x3968 .fp8e4m3)), { LS1 : List (View.Piece (Elt F) S31x384x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__body_eq_skeleton]; unfold cc0__body_skel
    simp only [k0_part191_eq_skeleton, k0_part33_eq_skeleton, k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part192_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part193_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.PiecesA.lean ====
module

public import proofs.«01_k».proof.Proof.RunA
public import proofs.«01_k».proof.Proof.Words

/-! The pieces the run at the first point finds are those of Words.lean, by unfolding both. -/
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The row maxima of the 31 groups of a block of activations. -/
def amax (arg1 : Memref sig .tc .vmem S1x384x3968 .bf16) (harg1 : arg1.IsWhole) (x0 : Vec F S1x384x3968 .bf16) : FVec F S384x128 .f32 :=
  lanes (ldX arg1 (harg1.unread x0)) 31 le_rfl

/-- The stores into the scratch of the codes. -/
theorem codesA (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) :
    (kernelRun0_A c i arg1 harg1 arg2 harg2 arg3 harg3 arg4 harg4 arg5 harg5 arg6 harg6 arg7 harg7 arg8 harg8 arg9 harg9 hc0 x0 x1 x2 x3).2.2.2.1 = codePieces (ldX arg1 (harg1.unread x0)) (invV (amax arg1 harg1 x0)) 31 le_rfl := by
  sl_kernel_rfl

/-- The stores into the scratch of the spread scales. -/
theorem sclsA (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) :
    (kernelRun0_A c i arg1 harg1 arg2 harg2 arg3 harg3 arg4 harg4 arg5 harg5 arg6 harg6 arg7 harg7 arg8 harg8 arg9 harg9 hc0 x0 x1 x2 x3).2.2.2.2.1 = sclPieces (sclV (amax arg1 harg1 x0)) 31 le_rfl := by
  sl_kernel_rfl

/-- The stores into the codes' output. -/
theorem codeOutA (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) :
    (kernelRun0_A c i arg1 harg1 arg2 harg2 arg3 harg3 arg4 harg4 arg5 harg5 arg6 harg6 arg7 harg7 arg8 harg8 arg9 harg9 hc0 x0 x1 x2 x3).2.1 = codeOutPieces (ldX arg1 (harg1.unread x0)) (invV (amax arg1 harg1 x0)) 31 le_rfl := by
  sl_kernel_rfl

/-- The store into the scales' output. -/
theorem sclOutA (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) :
    (kernelRun0_A c i arg1 harg1 arg2 harg2 arg3 harg3 arg4 harg4 arg5 harg5 arg6 harg6 arg7 harg7 arg8 harg8 arg9 harg9 hc0 x0 x1 x2 x3).2.2.1 = [⟨Rect.unit (s := S31x1x384) ![0, 0, 0] S31x1x384.size inb_S31x1x384_S31x1x384_0_0_0, k0_pay27 (sclV (amax arg1 harg1 x0))⟩] := by
  sl_kernel_rfl

/-- The result's tiles at the first point: Words.lean's, over the loaded blocks and the scratch just written. -/
theorem piecesA (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) :
    (kernelRun0_A c i arg1 harg1 arg2 harg2 arg3 harg3 arg4 harg4 arg5 harg5 arg6 harg6 arg7 harg7 arg8 harg8 arg9 harg9 hc0 x0 x1 x2 x3).1 = yPieces i arg2 (harg2.unread x1) arg3 (harg3.unread x2) arg4 (harg4.unread x3)
      arg8 (arg8.view.writes (Elt F) arg8.view.junk ((kernelRun0_A c i arg1 harg1 arg2 harg2 arg3 harg3 arg4 harg4 arg5 harg5 arg6 harg6 arg7 harg7 arg8 harg8 arg9 harg9 hc0 x0 x1 x2 x3).2.2.2.1))
      arg9 (arg9.view.writes (Elt F) arg9.view.junk ((kernelRun0_A c i arg1 harg1 arg2 harg2 arg3 harg3 arg4 harg4 arg5 harg5 arg6 harg6 arg7 harg7 arg8 harg8 arg9 harg9 hc0 x0 x1 x2 x3).2.2.2.2.1)) 18 le_rfl := by
  sl_kernel_rfl

end Cert.KernelIdeal.Hand

end
-- ==== Proof.RunB.lean ====
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11624000 in
/-- What the body's stores leave in each output's staging memref, as pieces (last first) IN CASE B (`scf.if` 0 not taken: points 1, 2, … 16: 16 of 17), WITH the
    proof that on whole staging memrefs — the inputs' at their contents, the outputs it reads before covering (5, 6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) :
    Σ' (L4 : List (View.Piece (Elt F) S48x8x768 .bf16)), Σ' (L5 : List (View.Piece (Elt F) S1x384x3968 .fp8e4m3)), Σ' (L6 : List (View.Piece (Elt F) S31x1x384 .f32)), Σ' (LS0 : List (View.Piece (Elt F) S384x3968 .fp8e4m3)), { LS1 : List (View.Piece (Elt F) S31x384x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ owns (c : Thread nD τ) arg8 fullShare xs0 ∗ owns (c : Thread nD τ) arg9 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, [], [], [], [], fun E K => ?run⟩
  case run =>
    simp only [cc0__body_eq_skeleton]; unfold cc0__body_skel
    simp only [k0_part191_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part192_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part193_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexists _; isplitr; · ipureintro; exact harg9.read_unread _
    iexact HS1

end Cert.KernelIdeal.Hand

end
-- ==== Proof.PiecesB.lean ====
module

public import proofs.«01_k».proof.Proof.RunB
public import proofs.«01_k».proof.Proof.Words

/-! The pieces the run at a later point finds are those of Words.lean, by unfolding both. -/
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The result's tiles at a point after the first: Words.lean's, over the loaded blocks and the carried scratch. -/
theorem piecesB (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) :
    (kernelRun0_B c i arg1 harg1 arg2 harg2 arg3 harg3 arg4 harg4 arg5 harg5 arg6 harg6 arg7 harg7 arg8 harg8 arg9 harg9 hc0 x0 x1 x2 x3 xo5 xo6 xs0 xs1).1 = yPieces i arg2 (harg2.unread x1) arg3 (harg3.unread x2) arg4 (harg4.unread x3) arg8 (harg8.unread xs0) arg9 (harg9.unread xs1) 18 le_rfl := by
  sl_kernel_rfl

end Cert.KernelIdeal.Hand

end
-- ==== Proof.Canon.lean ====
module

public import proofs.«01_k».proof.Proof.KerRead
public import proofs.«01_k».proof.Proof.PiecesA
public import proofs.«01_k».proof.Proof.PiecesB

/-! What the stores of one grid point leave in each buffer, as functions of the blocks it reads. -/

@[expose] public section

set_option maxRecDepth 16384

noncomputable section

namespace Cert.KernelIdeal.Hand

open Cert.KernelIdeal Cert.KernelIdeal.Gen
open Idealize.ShloMosaic Idealize.ShloMosaic.TcCoe
open scoped BigOperators

variable {F : FTy → Type} [FloatOps F]

/-! ## The stores read back at an index -/

/-- The codes' scratch after the first `n` groups' stores, at an index of one of them. -/
theorem codePieces_canon (X : Fin 31 → Vec F S1x384x128 .bf16) (inv : FVec F S384x128 .f32) (g : Fin 31) (r : Fin 384) (k : Fin 128) : ∀ (n : ℕ) (hn : n ≤ 31), g.val < n →
    View.canon (Val := Elt F) (s := S384x3968) (e := .fp8e4m3) (codePieces X inv n hn) (ix2 r ⟨128 * g.val + k.val, by omega⟩) = codeV g inv (X g) (ix2 r k)
  | 0, _, h => absurd h (by omega)
  | n + 1, hn, h => by
    unfold codePieces
    by_cases hg : g.val = n
    · obtain rfl : g = ⟨n, hn⟩ := Fin.ext hg
      have e : (ix2 r ⟨128 * n + k.val, by omega⟩ : S384x3968.Idx)
          = (Rect.unit (s := S384x3968) ![0, 128 * n] S384x128.size (cInb ⟨n, hn⟩)).emb (ix2 r k : S384x128.Idx) := by
        symm
        refine Rect.emb_eq_of_coords _ _ _ fun a => ?_
        match a with
        | ⟨0, _⟩ => show r.val = 0 + 1 * r.val; omega
        | ⟨1, _⟩ => show 128 * n + k.val = 128 * n + 1 * k.val; omega
      refine (congrArg _ e).trans ((View.canon_cons_emb _ _ _ _).trans ?_)
      exact congrFun (shapeCast_self _ _) _
    · rw [View.canon_cons_of_not_mem]
      · exact codePieces_canon X inv g r k n _ (by omega)
      · exact Rect.not_mem_set_of_axis _ _ ⟨1, by decide⟩ (128 * n) 128 rfl rfl rfl (.inl (by show 128 * g.val + k.val < 128 * n; omega))

/-- The codes' output after the first `n` groups' stores, at an index of one of them. -/
theorem codeOutPieces_canon (X : Fin 31 → Vec F S1x384x128 .bf16) (inv : FVec F S384x128 .f32) (g : Fin 31) (r : Fin 384) (k : Fin 128) : ∀ (n : ℕ) (hn : n ≤ 31), g.val < n →
    View.canon (Val := Elt F) (s := S1x384x3968) (e := .fp8e4m3) (codeOutPieces X inv n hn) (ix3 0 r ⟨128 * g.val + k.val, by omega⟩) = codeV g inv (X g) (ix2 r k)
  | 0, _, h => absurd h (by omega)
  | n + 1, hn, h => by
    unfold codeOutPieces
    by_cases hg : g.val = n
    · obtain rfl : g = ⟨n, hn⟩ := Fin.ext hg
      have e : (ix3 0 r ⟨128 * n + k.val, by omega⟩ : S1x384x3968.Idx)
          = (Rect.unit (s := S1x384x3968) ![0, 0, 128 * n] S1x384x128.size (xInb ⟨n, hn⟩)).emb (ix3 0 r k : S1x384x128.Idx) := by
        symm
        refine Rect.emb_eq_of_coords _ _ _ fun a => ?_
        match a with
        | ⟨0, _⟩ => rfl
        | ⟨1, _⟩ => show r.val = 0 + 1 * r.val; omega
        | ⟨2, _⟩ => show 128 * n + k.val = 128 * n + 1 * k.val; omega
      refine (congrArg _ e).trans ((View.canon_cons_emb _ _ _ _).trans ?_)
      pointwise
    · rw [View.canon_cons_of_not_mem]
      · exact codeOutPieces_canon X inv g r k n _ (by omega)
      · exact Rect.not_mem_set_of_axis _ _ ⟨2, by decide⟩ (128 * n) 128 rfl rfl rfl (.inl (by show 128 * g.val + k.val < 128 * n; omega))

/-- The spread scales' scratch after the first `n` groups' stores, at an index of one of them. -/
theorem sclPieces_canon (scl : FVec F S384x128 .f32) (g : Fin 31) (r : Fin 384) (l : Fin 128) : ∀ (n : ℕ) (hn : n ≤ 31), g.val < n →
    View.canon (Val := Elt F) (s := S31x384x128) (e := .f32) (sclPieces scl n hn) (ix3 g r l) = spread g scl (ix2 r l)
  | 0, _, h => absurd h (by omega)
  | n + 1, hn, h => by
    unfold sclPieces
    by_cases hg : g.val = n
    · obtain rfl : g = ⟨n, hn⟩ := Fin.ext hg
      have e : (ix3 ⟨n, hn⟩ r l : S31x384x128.Idx)
          = (Rect.unit (s := S31x384x128) ![n, 0, 0] S1x384x128.size (sInb ⟨n, hn⟩)).emb (ix3 0 r l : S1x384x128.Idx) := by
        symm
        refine Rect.emb_eq_of_coords _ _ _ fun a => ?_
        match a with
        | ⟨0, _⟩ => rfl
        | ⟨1, _⟩ => show r.val = 0 + 1 * r.val; omega
        | ⟨2, _⟩ => show l.val = 0 + 1 * l.val; omega
      refine (congrArg _ e).trans ((View.canon_cons_emb _ _ _ _).trans ?_)
      pointwise
    · rw [View.canon_cons_of_not_mem]
      · exact sclPieces_canon scl g r l n _ (by omega)
      · exact Rect.not_mem_set_of_axis _ _ ⟨0, by decide⟩ n 1 rfl rfl rfl (.inl (by show g.val < n; omega))

section
variable (i : grid0.Coords)
  (arg2 : Memref sig .tc .vmem S3968x768 .fp8e4m3) (f2 : arg2.view.ty.Contents (Elt F))
  (arg3 : Memref sig .tc .smem S31x102 .f32) (f3 : arg3.view.ty.Contents (Elt F))
  (arg4 : Memref sig .tc .vmem S1x384x768 .bf16) (f4 : arg4.view.ty.Contents (Elt F))
  (arg8 : Memref sig .tc .vmem S384x3968 .fp8e4m3) (f8 : arg8.view.ty.Contents (Elt F))
  (arg9 : Memref sig .tc .vmem S31x384x128 .f32) (f9 : arg9.view.ty.Contents (Elt F))

/-- The result's block after the first `n` tiles' stores, at an index of one of them. -/
theorem yPieces_canon (mt nt : Fin 3) (h : Fin 2) (a : Fin 16) (b : Fin 8) (l : Fin 128) : ∀ (n : ℕ) (hn : n ≤ 18), 6 * nt.val + 2 * mt.val + h.val < n →
    View.canon (Val := Elt F) (s := S48x8x768) (e := .bf16) (yPieces i arg2 f2 arg3 f3 arg4 f4 arg8 f8 arg9 f9 n hn) (ix3 ⟨16 * mt.val + a.val, by omega⟩ b ⟨256 * nt.val + 128 * h.val + l.val, by omega⟩)
      = yTile h (ldC arg8 f8 mt) (ldW arg2 f2 nt) (ldS arg9 f9 mt) (ldWs i arg3 f3 nt h) (ldR arg4 f4 mt nt h) (ix3 a b l)
  | 0, _, h => absurd h (by omega)
  | n + 1, hn, hlt => by
    unfold yPieces
    by_cases hg : 6 * nt.val + 2 * mt.val + h.val = n
    · obtain e1 : (⟨n % 6 / 2, by omega⟩ : Fin 3) = mt := Fin.ext (by show n % 6 / 2 = mt.val; omega)
      obtain e2 : (⟨n / 6, by omega⟩ : Fin 3) = nt := Fin.ext (by show n / 6 = nt.val; omega)
      obtain e3 : (⟨n % 2, by omega⟩ : Fin 2) = h := Fin.ext (by show n % 2 = h.val; omega)
      rw [e1, e2, e3]
      have e : (ix3 ⟨16 * mt.val + a.val, by omega⟩ b ⟨256 * nt.val + 128 * h.val + l.val, by omega⟩ : S48x8x768.Idx)
          = (Rect.unit (s := S48x8x768) ![16 * mt.val, 0, 256 * nt.val + 128 * h.val] S16x8x128.size (ytInb mt nt h)).emb (ix3 a b l : S16x8x128.Idx) := by
        symm
        refine Rect.emb_eq_of_coords _ _ _ fun c => ?_
        match c with
        | ⟨0, _⟩ => show 16 * mt.val + a.val = 16 * mt.val + 1 * a.val; omega
        | ⟨1, _⟩ => show b.val = 0 + 1 * b.val; omega
        | ⟨2, _⟩ => show 256 * nt.val + 128 * h.val + l.val = 256 * nt.val + 128 * h.val + 1 * l.val; omega
      unfold yPiece
      exact (congrArg _ e).trans (View.canon_cons_emb _ _ _ _)
    · rw [View.canon_cons_of_not_mem]
      · exact yPieces_canon mt nt h a b l n _ (by omega)
      · intro hy
        unfold yPiece at hy
        have hy' := (Rect.mem_set_unit (inb := ytInb ⟨n % 6 / 2, by omega⟩ ⟨n / 6, by omega⟩ ⟨n % 2, by omega⟩)).mp hy
        have h0 : 16 * (n % 6 / 2) ≤ 16 * mt.val + a.val ∧ 16 * mt.val + a.val < 16 * (n % 6 / 2) + 16 := hy' (0 : Fin 3)
        have h2 : 256 * (n / 6) + 128 * (n % 2) ≤ 256 * nt.val + 128 * h.val + l.val ∧ 256 * nt.val + 128 * h.val + l.val < 256 * (n / 6) + 128 * (n % 2) + 128 := hy' (2 : Fin 3)
        omega

/-! ## The loads at an index -/

/-- A tile of the codes at an index. -/
theorem ldC_apply {xs : Vec F S384x3968 .fp8e4m3} (hx : arg8.view.read (Elt F) f8 = xs) (mt : Fin 3) (g : Fin 31) (r k : Fin 128) :
    ldC arg8 f8 mt g (ix2 r k) = xs (ix2 ⟨128 * mt.val + r.val, by omega⟩ ⟨128 * g.val + k.val, by omega⟩) := by
  show View.ld (arg8.view.read (Elt F) f8) (Rect.unit (s := S384x3968) ![128 * mt.val, 128 * g.val] S128x128.size (ctInb mt g)) (ix2 r k) = _
  rw [hx]
  pointwise

/-- A tile of the weights at an index. -/
theorem ldW_apply {xs : Vec F S3968x768 .fp8e4m3} (hx : arg2.view.read (Elt F) f2 = xs) (nt : Fin 3) (g : Fin 31) (k : Fin 128) (l : Fin 256) :
    ldW arg2 f2 nt g (ix2 k l) = xs (ix2 ⟨128 * g.val + k.val, by omega⟩ ⟨256 * nt.val + l.val, by omega⟩) := by
  show View.ld (arg2.view.read (Elt F) f2) (Rect.unit (s := S3968x768) ![128 * g.val, 256 * nt.val] S128x256.size (wtInb nt g)) (ix2 k l) = _
  rw [hx]
  pointwise

/-- A tile of the spread scales at an index. -/
theorem ldS_apply {xs : Vec F S31x384x128 .f32} (hx : arg9.view.read (Elt F) f9 = xs) (mt : Fin 3) (g : Fin 31) (r l : Fin 128) :
    ldS arg9 f9 mt g (ix3 0 r l) = xs (ix3 g ⟨128 * mt.val + r.val, by omega⟩ l) := by
  show View.ld (arg9.view.read (Elt F) f9) (Rect.unit (s := S31x384x128) ![g.val, 128 * mt.val, 0] S1x128x128.size (stInb mt g)) (ix3 0 r l) = _
  rw [hx]
  pointwise

/-- A weight scale. -/
theorem ldWs_apply {xs : Vec F S31x102 .f32} (hx : arg3.view.read (Elt F) f3 = xs) (nt : Fin 3) (h : Fin 2) (g : Fin 31) (hi : (i 0).val < 17) :
    ldWs i arg3 f3 nt h g = xs (ix2 g ⟨6 * (i 0).val + 2 * nt.val + h.val, by omega⟩) := by
  show View.ld (arg3.view.read (Elt F) f3) (Rect.unit (s := S31x102) (wsOff g.val i (BitVec.ofNat 32 (2 * nt.val)) (BitVec.ofNat 32 h.val)) S1x1.size (wsInb g i nt h)) (Shape.Idx.first (s := S1x1) (by decide)) = _
  rw [hx]
  refine congrArg xs (Rect.emb_eq_of_coords _ _ _ fun a => ?_)
  match a with
  | ⟨0, _⟩ => rfl
  | ⟨1, _⟩ => exact (wsOff_one i nt h).symm

/-- A tile of the residual at an index. -/
theorem ldR_apply {xs : Vec F S1x384x768 .bf16} (hx : arg4.view.read (Elt F) f4 = xs) (mt nt : Fin 3) (h : Fin 2) (r l : Fin 128) :
    ldR arg4 f4 mt nt h (ix3 0 r l) = xs (ix3 0 ⟨128 * mt.val + r.val, by omega⟩ ⟨256 * nt.val + 128 * h.val + l.val, by omega⟩) := by
  show View.ld (arg4.view.read (Elt F) f4) (Rect.unit (s := S1x384x768) ![0, 128 * mt.val, 256 * nt.val + 128 * h.val] S1x128x128.size (rtInb mt nt h)) (ix3 0 r l) = _
  rw [hx]
  pointwise

/-- A group of the activations at an index. -/
theorem ldX_apply (arg1 : Memref sig .tc .vmem S1x384x3968 .bf16) (f1 : arg1.view.ty.Contents (Elt F)) {xs : Vec F S1x384x3968 .bf16} (hx : arg1.view.read (Elt F) f1 = xs)
    (g : Fin 31) (r : Fin 384) (k : Fin 128) :
    ldX arg1 f1 g (ix3 0 r k) = xs (ix3 0 r ⟨128 * g.val + k.val, by omega⟩) := by
  show View.ld (arg1.view.read (Elt F) f1) (Rect.unit (s := S1x384x3968) ![0, 0, 128 * g.val] S1x384x128.size (xInb g)) (ix3 0 r k) = _
  rw [hx]
  pointwise

end

end Cert.KernelIdeal.Hand

end
-- ==== Proof.Frame.lean ====
module

public import Idealize.ShloMosaic.Lib.Claim
public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 4 tile its block (18 stores of `S16x8x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) (y : S48x8x768.Idx) :
    ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).1 S16x8x128.size (by sl_kernel_rfl) y

/-- What case A leaves in output 4's staging buffer: its pieces read back over junk. -/
def out0_A_4 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) : Vec F S48x8x768 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1 x2 x3).1)

/-- Case A's pieces for output 5 tile its block (31 stores of `S1x384x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) (y : S1x384x3968.Idx) :
    ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.1 S1x384x128.size (by sl_kernel_rfl) y

/-- What case A leaves in output 5's staging buffer: its pieces read back over junk. -/
def out0_A_5 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) : Vec F S1x384x3968 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3).2.1)

/-- Case A's pieces for output 6 tile its block (1 store of `S31x1x384`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) (y : S31x1x384.Idx) :
    ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.1 S31x1x384.size (by sl_kernel_rfl) y

/-- What case A leaves in output 6's staging buffer: its pieces read back over junk. -/
def out0_A_6 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) : Vec F S31x1x384 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3).2.2.1)

/-- Case A's pieces for scratch `arg8`, which the kernel carries between points, cover it: 31 pieces of `S384x128` tiling it (Lib/Ring.lean `Piece.tiledL`). -/
theorem scover0_A_0 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) (y : S384x3968.Idx) :
    ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.1 S384x128.size (by sl_kernel_rfl) y

/-- What case A leaves in scratch `arg8`: its pieces read back over junk. -/
def sout0_A_0 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) : Vec F S384x3968 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3).2.2.2.1)

/-- Case A's pieces for scratch `arg9`, which the kernel carries between points, cover it: 31 pieces of `S1x384x128` tiling it (Lib/Ring.lean `Piece.tiledL`). -/
theorem scover0_A_1 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) (y : S31x384x128.Idx) :
    ∃ pc ∈ (kernelRun0_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.2.1 S1x384x128.size (by sl_kernel_rfl) y

/-- What case A leaves in scratch `arg9`: its pieces read back over junk. -/
def sout0_A_1 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : cond0_0 i)
    (x0 : Vec F S1x384x3968 .bf16) (x1 : Vec F S3968x768 .fp8e4m3) (x2 : Vec F S31x102 .f32) (x3 : Vec F S1x384x768 .bf16) : Vec F S31x384x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 x0 x1 x2 x3).2.2.2.2.1)

/-- Case B's pieces for output 4 tile its block (18 stores of `S16x8x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) (y : S48x8x768.Idx) :
    ∃ pc ∈ (kernelRun0_B c i arg1 harg1 arg2 harg2 arg3 harg3 arg4 harg4 arg5 harg5 arg6 harg6 arg7 harg7 arg8 harg8 arg9 harg9 hc0 x0 x1 x2 x3 xo5 xo6 xs0 xs1).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo5 xo6 xs0 xs1).1 S16x8x128.size (by sl_kernel_rfl) y

/-- What case B leaves in output 4's staging buffer: its pieces read back over junk. -/
def out0_B_4 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) : Vec F S48x8x768 .bf16 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 x2 x3 xo5 xo6 xs0 xs1).1)

/-- Case B stores nothing into output 5, a live window: its staging buffer holds what the point before left. -/
def out0_B_5 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) : Vec F S1x384x3968 .fp8e4m3 := xo5

/-- Case B stores nothing into output 6, a live window: its staging buffer holds what the point before left. -/
def out0_B_6 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) : Vec F S31x1x384 .f32 := xo6

/-- Case B stores nothing into scratch `arg8`: it holds what the point before left. -/
def sout0_B_0 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) : Vec F S384x3968 .fp8e4m3 := xs0

/-- Case B stores nothing into scratch `arg9`: it holds what the point before left. -/
def sout0_B_1 (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole) (hc0 : ¬cond0_0 i)
    (x0 : Vec F S1x384x3968 .bf16) (x1 : Vec F S3968x768 .fp8e4m3) (x2 : Vec F S31x102 .f32) (x3 : Vec F S1x384x768 .bf16) (xo5 : Vec F S1x384x3968 .fp8e4m3) (xo6 : Vec F S31x1x384 .f32) (xs0 : Vec F S384x3968 .fp8e4m3) (xs1 : Vec F S31x384x128 .f32) : Vec F S31x384x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S48x8x768 .bf16 × Vec F S1x384x3968 .fp8e4m3 × Vec F S31x1x384 .f32 × Vec F S384x3968 .fp8e4m3 × Vec F S31x384x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 17 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 17 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 17 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

/-- Before the first point the invariant is the one the launch hands over. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- Window 1, the weights: the body leaves its block. -/
theorem after0_1 (c : Dev nD) (t : Fin cfg0.N) : (dats m 0 c).after 1 t = iblk m c 1 t := by dsimp only [dats]
/-- Window 2, the weights' scales: the body leaves its block. -/
theorem after0_2 (c : Dev nD) (t : Fin cfg0.N) : (dats m 0 c).after 2 t = iblk m c 2 t := by dsimp only [dats]
/-- Window 3, the residual: the body leaves its block. -/
theorem after0_3 (c : Dev nD) (t : Fin cfg0.N) : (dats m 0 c).after 3 t = iblk m c 3 t := by dsimp only [dats]
/-- Window 4, the result: what the body leaves, by the recursion over the points. -/
theorem after0_4 (c : Dev nD) (t : Fin cfg0.N) : (dats m 0 c).after 4 t = (outsAt0 m c t.val t.isLt).1 := by dsimp only [dats]
/-- Window 5, the codes: what the body leaves, by the recursion over the points. -/
theorem after0_5 (c : Dev nD) (t : Fin cfg0.N) : (dats m 0 c).after 5 t = (outsAt0 m c t.val t.isLt).2.1 := by dsimp only [dats]
/-- Window 6, the scales: what the body leaves, by the recursion over the points. -/
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1, the weights: the staging buffer holds its block at every point. -/
theorem before0_1 (c : Dev nD) (t : Fin cfg0.N) (d) : (dats m 0 c).before 1 t d = iblk m c 1 t :=
  before0_1_of m (dats m 0 c) (A_eq m c 1) (after0_1 m c) t d
/-- Window 2, the weights' scales: the staging buffer holds its block at every point. -/
theorem before0_2 (c : Dev nD) (t : Fin cfg0.N) (d) : (dats m 0 c).before 2 t d = iblk m c 2 t :=
  before0_2_of m (dats m 0 c) (A_eq m c 2) (after0_2 m c) t d
/-- Window 3, the residual: the staging buffer holds its block at every point. -/
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 17 := lt_of_lt_of_eq t.isLt (show cfg0.N = 17 from N_0)
  rw [after0_5, after0_5]
  by_cases h0 : t.val % 17 = 0
  · rw [liveAt0_5_A t ((hcond0_0 t).mpr h0)] at hi
    exact absurd hi Bool.false_ne_true
  · rw [outsAt0_B m c t h0]
    dsimp only [out0_B_5, out0_B_6]

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 17 := lt_of_lt_of_eq t.isLt (show cfg0.N = 17 from N_0)
  rw [after0_6, after0_6]
  by_cases h0 : t.val % 17 = 0
  · rw [liveAt0_6_A t ((hcond0_0 t).mpr h0)] at hi
    exact absurd hi Bool.false_ne_true
  · rw [outsAt0_B m c t h0]
    dsimp only [out0_B_5, out0_B_6]
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 17 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 17 = 0) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- At a point of case B what is left in output 5's buffer is what was found there, and so what the proof data says. -/
theorem leaves0_5_B (c : Dev nD) (t : Fin cfg0.N) (h0 : ¬t.val % 17 = 0) :
    owns (c : Thread nD τ) (ms0_5 t) fullShare ((outsAt0 m c t.val t.isLt).2.1) ⊢ (dats m 0 c).leavesExact 5 t := by
  unfold Dat.leavesExact
  rw [idleAt0_5_B t (fun h => h0 ((hcond0_0 t).mp h))]
  cases hf : (cfg0.win 5).flush t
  · simp only [before0_5_B m c t h0]
    rw [outsAt0_B m c t h0]
    dsimp only [out0_B_5]
    iintro H
    iexists default
    iexact H
  · simp only [after0_5]
    exact Idealize.SL.BI.Entails.refl _

/-- At a point of case B what is left in output 6's buffer is what was found there, and so what the proof data says. -/
theorem leaves0_6_B (c : Dev nD) (t : Fin cfg0.N) (h0 : ¬t.val % 17 = 0) :
    owns (c : Thread nD τ) (ms0_6 t) fullShare ((outsAt0 m c t.val t.isLt).2.2.1) ⊢ (dats m 0 c).leavesExact 6 t := by
  unfold Dat.leavesExact
  rw [idleAt0_6_B t (fun h => h0 ((hcond0_0 t).mp h))]
  cases hf : (cfg0.win 6).flush t
  · simp only [before0_6_B m c t h0]
    rw [outsAt0_B m c t h0]
    dsimp only [out0_B_6]
    iintro H
    iexists default
    iexact H
  · simp only [after0_6]
    exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    by_cases hz : t.val = 0
    · rw [PhiS_castSucc m c t, PhiS_zero m c _ _ hz, PhiA0_eq]
      rw [outsAt0_A m c t h0]
      unfold out0_A_4 out0_A_5 out0_A_6 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _)
    · exfalso; have hN : t.val < 17 := lt_of_lt_of_eq t.isLt (show cfg0.N = 17 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    have L5 := leaves0_5_B m c t h0
    have L6 := leaves0_6_B m c t h0
    by_cases hz : t.val = 0
    · exfalso; have hN : t.val < 17 := lt_of_lt_of_eq t.isLt (show cfg0.N = 17 from N_0); omega
    · rw [PhiS_castSucc m c t, PhiS_pos m c _ _ hz]
      rw [outsAt0_B m c t h0] at L5 L6 ⊢
      unfold out0_B_5 at L5
      unfold out0_B_6 at L6
      (try dsimp only at L5 L6)
      simp only [before0_5_B m c t h0, before0_6_B m c t h0]
      unfold out0_B_4 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _)
      isplitl [H5]; · iapply L5; iexact H5
      iapply L6; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 17 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Block.lean ====
module

public import proofs.«01_k».proof.Proof.Canon
public import proofs.«01_k».proof.Proof.Frame

/-! What one grid point leaves in the outputs' buffers and the scratch, as plain functions of its blocks. -/

@[expose] public section

set_option maxRecDepth 16384

noncomputable section

namespace Cert.KernelIdeal.Hand

open Cert.KernelIdeal Cert.KernelIdeal.Gen
open Idealize.ShloMosaic Idealize.ShloMosaic.TcCoe
open scoped BigOperators

/-- The greatest absolute value of row `r` in group `g` of the activations. -/
def amaxK (x : Vec Ideal S1x384x3968 .bf16) (r : Fin 384) (g : Fin 31) : EReal :=
  Pure.rowMaxS fun k => x (ix3 0 r ⟨g.val * 128 + k.val, by omega⟩)

/-- The code of row `r`, column `c`. -/
def codeK (x : Vec Ideal S1x384x3968 .bf16) (r : Fin 384) (c : Fin 3968) : EReal :=
  Pure.codeS (x (ix3 0 r c)) (Pure.invS (amaxK x r ⟨c.val / 128, by omega⟩))

/-- The codes, as the scratch holds them. -/
def CODE (x : Vec Ideal S1x384x3968 .bf16) : Vec Ideal S384x3968 .fp8e4m3 := fun j => codeK x (j 0) (j 1)

/-- The codes, as the output holds them. -/
def CODEO (x : Vec Ideal S1x384x3968 .bf16) : Vec Ideal S1x384x3968 .fp8e4m3 := fun j => codeK x (j 1) (j 2)

/-- The scales, spread over 128 lanes, as the scratch holds them. -/
def SCL (x : Vec Ideal S1x384x3968 .bf16) : Vec Ideal S31x384x128 .f32 := fun j => Pure.scaleS (amaxK x (j 1) (j 0))

/-- The scales, as the output holds them. -/
def SCLO (x : Vec Ideal S1x384x3968 .bf16) : Vec Ideal S31x1x384 .f32 := fun j => Pure.scaleS (amaxK x (j 2) (j 0))

/-- One entry of the result's block at point `i`: row `r`, column `z`. -/
def yK (i : ℕ) (hi : i < 17) (x1 : Vec Ideal S3968x768 .fp8e4m3) (x2 : Vec Ideal S31x102 .f32) (x3 : Vec Ideal S1x384x768 .bf16)
    (xs0 : Vec Ideal S384x3968 .fp8e4m3) (xs1 : Vec Ideal S31x384x128 .f32) (r : Fin 384) (z : Fin 768) : EReal :=
  (∑ g : Fin 31, (∑ k : Fin 128, xs0 (ix2 r ⟨128 * g.val + k.val, by omega⟩) * x1 (ix2 ⟨128 * g.val + k.val, by omega⟩ z))
      * (xs1 (ix3 g r ⟨z.val % 128, by omega⟩) * x2 (ix2 g ⟨6 * i + z.val / 128, by omega⟩)))
    + x3 (ix3 0 r z)

/-- The result's block at point `i`, as the output's buffer holds it. -/
def YV (i : ℕ) (hi : i < 17) (x1 : Vec Ideal S3968x768 .fp8e4m3) (x2 : Vec Ideal S31x102 .f32) (x3 : Vec Ideal S1x384x768 .bf16)
    (xs0 : Vec Ideal S384x3968 .fp8e4m3) (xs1 : Vec Ideal S31x384x128 .f32) : Vec Ideal S48x8x768 .bf16 :=
  fun j => yK i hi x1 x2 x3 xs0 xs1 ⟨(j 0).val * 8 + (j 1).val, by
    have h0 : (j 0).val < 48 := (j 0).isLt
    have h1 : (j 1).val < 8 := (j 1).isLt
    omega⟩ (j 2)

section
variable (i : grid0.Coords) (hi : (i 0).val < 17)
  (arg2 : Memref sig .tc .vmem S3968x768 .fp8e4m3) (f2 : arg2.view.ty.Contents (Elt Ideal))
  (arg3 : Memref sig .tc .smem S31x102 .f32) (f3 : arg3.view.ty.Contents (Elt Ideal))
  (arg4 : Memref sig .tc .vmem S1x384x768 .bf16) (f4 : arg4.view.ty.Contents (Elt Ideal))
  (arg8 : Memref sig .tc .vmem S384x3968 .fp8e4m3) (f8 : arg8.view.ty.Contents (Elt Ideal))
  (arg9 : Memref sig .tc .vmem S31x384x128 .f32) (f9 : arg9.view.ty.Contents (Elt Ideal))

/-- The result's tiles leave the block `YV` of what the buffers hold. -/
theorem yPieces_eq {x1 : Vec Ideal S3968x768 .fp8e4m3} (h1 : arg2.view.read (Elt Ideal) f2 = x1) {x2 : Vec Ideal S31x102 .f32} (h2 : arg3.view.read (Elt Ideal) f3 = x2)
    {x3 : Vec Ideal S1x384x768 .bf16} (h3 : arg4.view.read (Elt Ideal) f4 = x3) {xs0 : Vec Ideal S384x3968 .fp8e4m3} (h8 : arg8.view.read (Elt Ideal) f8 = xs0)
    {xs1 : Vec Ideal S31x384x128 .f32} (h9 : arg9.view.read (Elt Ideal) f9 = xs1) :
    View.canon (Val := Elt Ideal) (s := S48x8x768) (e := .bf16) (yPieces (F := Ideal) i arg2 f2 arg3 f3 arg4 f4 arg8 f8 arg9 f9 18 le_rfl) = YV (i 0).val hi x1 x2 x3 xs0 xs1 := by
  funext j
  obtain ⟨p, q, z, rfl⟩ : ∃ (p : Fin 48) (q : Fin 8) (z : Fin 768), j = ix3 p q z := ⟨j 0, j 1, j 2, eq_ix3 j⟩
  obtain ⟨mt, a, rfl⟩ : ∃ (mt : Fin 3) (a : Fin 16), p = ⟨16 * mt.val + a.val, by omega⟩ := ⟨⟨p.val / 16, by omega⟩, ⟨p.val % 16, by omega⟩, Fin.ext (by show p.val = 16 * (p.val / 16) + p.val % 16; omega)⟩
  obtain ⟨nt, h, l, rfl⟩ : ∃ (nt : Fin 3) (h : Fin 2) (l : Fin 128), z = ⟨256 * nt.val + 128 * h.val + l.val, by omega⟩ :=
    ⟨⟨z.val / 256, by omega⟩, ⟨z.val % 256 / 128, by omega⟩, ⟨z.val % 128, by omega⟩, Fin.ext (by show z.val = 256 * (z.val / 256) + 128 * (z.val % 256 / 128) + z.val % 128; omega)⟩
  rw [yPieces_canon i arg2 f2 arg3 f3 arg4 f4 arg8 f8 arg9 f9 mt nt h a q l 18 le_rfl (by omega), yTile_apply]
  show _ = yK (i 0).val hi x1 x2 x3 xs0 xs1 ⟨(16 * mt.val + a.val) * 8 + q.val, by omega⟩ ⟨256 * nt.val + 128 * h.val + l.val, by omega⟩
  unfold yK
  have er : (⟨128 * mt.val + (a.val * 8 + q.val), by omega⟩ : Fin 384) = ⟨(16 * mt.val + a.val) * 8 + q.val, by omega⟩ := Fin.ext (by show 128 * mt.val + (a.val * 8 + q.val) = (16 * mt.val + a.val) * 8 + q.val; omega)
  have ez : (⟨256 * nt.val + (128 * h.val + l.val), by omega⟩ : Fin 768) = ⟨256 * nt.val + 128 * h.val + l.val, by omega⟩ := Fin.ext (by show 256 * nt.val + (128 * h.val + l.val) = 256 * nt.val + 128 * h.val + l.val; omega)
  have el : (⟨(256 * nt.val + 128 * h.val + l.val) % 128, by omega⟩ : Fin 128) = l := Fin.ext (by show (256 * nt.val + 128 * h.val + l.val) % 128 = l.val; omega)
  have es : (⟨6 * (i 0).val + (256 * nt.val + 128 * h.val + l.val) / 128, by omega⟩ : Fin 102) = ⟨6 * (i 0).val + 2 * nt.val + h.val, by omega⟩ :=
    Fin.ext (by show 6 * (i 0).val + (256 * nt.val + 128 * h.val + l.val) / 128 = 6 * (i 0).val + 2 * nt.val + h.val; omega)
  refine Ideal.add_congr (Finset.sum_congr rfl fun g _ => Ideal.mul_congr (Finset.sum_congr rfl fun k _ => Ideal.mul_congr ?_ ?_) (Ideal.mul_congr ?_ ?_)) ?_
  · rw [ldC_apply arg8 f8 h8 mt g, er]
  · rw [ldW_apply arg2 f2 h1 nt g, ez]
  · rw [el]
    exact (ldS_apply arg9 f9 h9 mt g _ l).trans (by rw [er])
  · exact (ldWs_apply i arg3 f3 h2 nt h g hi).trans (by rw [es])
  · rw [ldR_apply arg4 f4 h3 mt nt h, er]

end

section
variable (arg1 : Memref sig .tc .vmem S1x384x3968 .bf16) (f1 : arg1.view.ty.Contents (Elt Ideal)) (x0 : Vec Ideal S1x384x3968 .bf16) (hx : arg1.view.read (Elt Ideal) f1 = x0)
include hx

/-- Lane `g` of the row maxima of the loaded groups. -/
theorem lanes_ldX (r : Fin 384) (g : Fin 31) : lanes (F := Ideal) (ldX arg1 f1) 31 le_rfl (ix2 r ⟨g.val, by omega⟩) = amaxK x0 r g := by
  rw [lanes_apply _ r g 31 le_rfl g.isLt]
  unfold amaxK
  refine congrArg Pure.rowMaxS (funext fun k => ?_)
  rw [ldX_apply arg1 f1 hx g]
  refine congrArg x0 (congrArg (ix3 0 r) (Fin.ext ?_))
  show 128 * g.val + k.val = g.val * 128 + k.val
  omega

/-- A group's codes of the loaded groups. -/
theorem codeV_ldX (g : Fin 31) (r : Fin 384) (k : Fin 128) :
    codeV (F := Ideal) g (invV (lanes (F := Ideal) (ldX arg1 f1) 31 le_rfl)) (ldX arg1 f1 g) (ix2 r k) = codeK x0 r ⟨128 * g.val + k.val, by omega⟩ := by
  rw [codeV_apply, invV_apply, lanes_ldX arg1 f1 x0 hx, ldX_apply arg1 f1 hx g]
  unfold codeK
  have e : (⟨(128 * g.val + k.val) / 128, by omega⟩ : Fin 31) = g := Fin.ext (by show (128 * g.val + k.val) / 128 = g.val; omega)
  rw [e]

/-- The codes' stores leave the codes in the scratch. -/
theorem codePieces_eq : View.canon (Val := Elt Ideal) (s := S384x3968) (e := .fp8e4m3) (codePieces (F := Ideal) (ldX arg1 f1) (invV (lanes (F := Ideal) (ldX arg1 f1) 31 le_rfl)) 31 le_rfl) = CODE x0 := by
  funext j
  obtain ⟨r, c, rfl⟩ : ∃ (r : Fin 384) (c : Fin 3968), j = ix2 r c := ⟨j 0, j 1, eq_ix2 j⟩
  obtain ⟨g, k, rfl⟩ : ∃ (g : Fin 31) (k : Fin 128), c = ⟨128 * g.val + k.val, by omega⟩ := ⟨⟨c.val / 128, by omega⟩, ⟨c.val % 128, by omega⟩, Fin.ext (by show c.val = 128 * (c.val / 128) + c.val % 128; omega)⟩
  rw [codePieces_canon _ _ g r k 31 le_rfl g.isLt, codeV_ldX arg1 f1 x0 hx]
  rfl

/-- And in the output. -/
theorem codeOutPieces_eq : View.canon (Val := Elt Ideal) (s := S1x384x3968) (e := .fp8e4m3) (codeOutPieces (F := Ideal) (ldX arg1 f1) (invV (lanes (F := Ideal) (ldX arg1 f1) 31 le_rfl)) 31 le_rfl) = CODEO x0 := by
  funext j
  obtain ⟨o, r, c, rfl⟩ : ∃ (o : Fin 1) (r : Fin 384) (c : Fin 3968), j = ix3 o r c := ⟨j 0, j 1, j 2, eq_ix3 j⟩
  obtain rfl : o = 0 := Subsingleton.elim _ _
  obtain ⟨g, k, rfl⟩ : ∃ (g : Fin 31) (k : Fin 128), c = ⟨128 * g.val + k.val, by omega⟩ := ⟨⟨c.val / 128, by omega⟩, ⟨c.val % 128, by omega⟩, Fin.ext (by show c.val = 128 * (c.val / 128) + c.val % 128; omega)⟩
  rw [codeOutPieces_canon _ _ g r k 31 le_rfl g.isLt, codeV_ldX arg1 f1 x0 hx]
  rfl

/-- The scales' stores leave the spread scales in the scratch. -/
theorem sclPieces_eq : View.canon (Val := Elt Ideal) (s := S31x384x128) (e := .f32) (sclPieces (F := Ideal) (sclV (lanes (F := Ideal) (ldX arg1 f1) 31 le_rfl)) 31 le_rfl) = SCL x0 := by
  funext j
  obtain ⟨g, r, l, rfl⟩ : ∃ (g : Fin 31) (r : Fin 384) (l : Fin 128), j = ix3 g r l := ⟨j 0, j 1, j 2, eq_ix3 j⟩
  rw [sclPieces_canon _ g r l 31 le_rfl g.isLt, spread_apply, sclV_apply, lanes_ldX arg1 f1 x0 hx]
  rfl

/-- The scales' output. -/
theorem sclOut_eq : k0_pay27 (F := Ideal) (sclV (lanes (F := Ideal) (ldX arg1 f1) 31 le_rfl)) = SCLO x0 := by
  funext j
  obtain ⟨g, o, r, rfl⟩ : ∃ (g : Fin 31) (o : Fin 1) (r : Fin 384), j = ix3 g o r := ⟨j 0, j 1, j 2, eq_ix3 j⟩
  obtain rfl : o = 0 := Subsingleton.elim _ _
  rw [pay27_apply, sclV_apply, lanes_ldX arg1 f1 x0 hx]
  rfl

end

section
variable (c : Dev nD) (i : grid0.Coords) (arg1 : Memref sig .tc .vmem S1x384x3968 .bf16) (harg1 : arg1.IsWhole) (arg2 : Memref sig .tc .vmem S3968x768 .fp8e4m3) (harg2 : arg2.IsWhole) (arg3 : Memref sig .tc .smem S31x102 .f32) (harg3 : arg3.IsWhole) (arg4 : Memref sig .tc .vmem S1x384x768 .bf16) (harg4 : arg4.IsWhole) (arg5 : Memref sig .tc .vmem S48x8x768 .bf16) (harg5 : arg5.IsWhole) (arg6 : Memref sig .tc .vmem S1x384x3968 .fp8e4m3) (harg6 : arg6.IsWhole) (arg7 : Memref sig .tc .vmem S31x1x384 .f32) (harg7 : arg7.IsWhole) (arg8 : Memref sig .tc .vmem S384x3968 .fp8e4m3) (harg8 : arg8.IsWhole) (arg9 : Memref sig .tc .vmem S31x384x128 .f32) (harg9 : arg9.IsWhole)
  (x0 : Vec Ideal S1x384x3968 .bf16) (x1 : Vec Ideal S3968x768 .fp8e4m3) (x2 : Vec Ideal S31x102 .f32) (x3 : Vec Ideal S1x384x768 .bf16)

/-- The first point leaves the codes in the scratch. -/
theorem soutA0 (hc0 : cond0_0 i) : sout0_A_0 (F := Ideal) c i arg1 harg1 arg2 harg2 arg3 harg3 arg4 harg4 arg5 harg5 arg6 harg6 arg7 harg7 arg8 harg8 arg9 harg9 hc0 x0 x1 x2 x3 = CODE x0 := by
  unfold sout0_A_0
  rw [View.read_writes_junk_eq_canon, codesA]
  exact codePieces_eq arg1 _ x0 (harg1.read_unread x0)

/-- The first point leaves the spread scales in the scratch. -/
theorem soutA1 (hc0 : cond0_0 i) : sout0_A_1 (F := Ideal) c i arg1 harg1 arg2 harg2 arg3 harg3 arg4 harg4 arg5 harg5 arg6 harg6 arg7 harg7 arg8 harg8 arg9 harg9 hc0 x0 x1 x2 x3 = SCL x0 := by
  unfold sout0_A_1
  rw [View.read_writes_junk_eq_canon, sclsA]
  exact sclPieces_eq arg1 _ x0 (harg1.read_unread x0)

/-- The first point leaves the codes in the codes' output. -/
theorem outA5 (hc0 : cond0_0 i) : out0_A_5 (F := Ideal) c i arg1 harg1 arg2 harg2 arg3 harg3 arg4 harg4 arg5 harg5 arg6 harg6 arg7 harg7 arg8 harg8 arg9 harg9 hc0 x0 x1 x2 x3 = CODEO x0 := by
  unfold out0_A_5
  rw [View.read_writes_junk_eq_canon, codeOutA]
  exact codeOutPieces_eq arg1 _ x0 (harg1.read_unread x0)

/-- The first point leaves the scales in the scales' output. -/
theorem outA6 (hc0 : cond0_0 i) : out0_A_6 (F := Ideal) c i arg1 harg1 arg2 harg2 arg3 harg3 arg4 harg4 arg5 harg5 arg6 harg6 arg7 harg7 arg8 harg8 arg9 harg9 hc0 x0 x1 x2 x3 = SCLO x0 := by
  unfold out0_A_6
  rw [View.read_writes_junk_eq_canon, sclOutA]
  funext j
  have e : j = (Rect.unit (s := S31x1x384) ![0, 0, 0] S31x1x384.size inb_S31x1x384_S31x1x384_0_0_0).emb j := by
    symm
    refine Rect.emb_eq_of_coords _ _ _ fun a => ?_
    match a with
    | ⟨0, _⟩ => show (j 0).val = 0 + 1 * (j 0).val; omega
    | ⟨1, _⟩ => show (j 1).val = 0 + 1 * (j 1).val; omega
    | ⟨2, _⟩ => show (j 2).val = 0 + 1 * (j 2).val; omega
  refine (congrArg _ e).trans ((View.canon_cons_emb _ _ _ _).trans ?_)
  exact congrFun (sclOut_eq arg1 _ x0 (harg1.read_unread x0)) j

/-- The first point leaves its block of the result. -/
theorem outA4 (hc0 : cond0_0 i) (hi : (i 0).val < 17) : out0_A_4 (F := Ideal) c i arg1 harg1 arg2 harg2 arg3 harg3 arg4 harg4 arg5 harg5 arg6 harg6 arg7 harg7 arg8 harg8 arg9 harg9 hc0 x0 x1 x2 x3
    = YV (i 0).val hi x1 x2 x3 (CODE x0) (SCL x0) := by
  unfold out0_A_4
  rw [View.read_writes_junk_eq_canon, piecesA]
  refine yPieces_eq i hi arg2 _ arg3 _ arg4 _ arg8 _ arg9 _ (harg2.read_unread x1) (harg3.read_unread x2) (harg4.read_unread x3) ?_ ?_
  · rw [View.read_writes_junk_eq_canon, codesA]
    exact codePieces_eq arg1 _ x0 (harg1.read_unread x0)
  · rw [View.read_writes_junk_eq_canon, sclsA]
    exact sclPieces_eq arg1 _ x0 (harg1.read_unread x0)

/-- A later point leaves its block of the result. -/
theorem outB4 (hc0 : ¬cond0_0 i) (hi : (i 0).val < 17) (xo5 : Vec Ideal S1x384x3968 .fp8e4m3) (xo6 : Vec Ideal S31x1x384 .f32) (xs0 : Vec Ideal S384x3968 .fp8e4m3) (xs1 : Vec Ideal S31x384x128 .f32) :
    out0_B_4 (F := Ideal) c i arg1 harg1 arg2 harg2 arg3 harg3 arg4 harg4 arg5 harg5 arg6 harg6 arg7 harg7 arg8 harg8 arg9 harg9 hc0 x0 x1 x2 x3 xo5 xo6 xs0 xs1
    = YV (i 0).val hi x1 x2 x3 xs0 xs1 := by
  unfold out0_B_4
  rw [View.read_writes_junk_eq_canon, piecesB]
  exact yPieces_eq i hi arg2 _ arg3 _ arg4 _ arg8 _ arg9 _ (harg2.read_unread x1) (harg3.read_unread x2) (harg4.read_unread x3) (harg8.read_unread xs0) (harg9.read_unread xs1)

end

end Cert.KernelIdeal.Hand

end
-- ==== Proof.Arrays.lean ====
module

public import proofs.«01_k».proof.Proof.Block
public import Idealize.ShloMosaic.Lib.Pipeline.ValueKit

/-! What the three result arrays of the region hold after the last grid point, as functions of the arguments. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices: the weights, the residual and the result move along the columns with the point;
    every other window is its whole array. -/
theorem idx : ∀ t : Fin cfg0.N, win0_0.index t = ![0, 0, 0] ∧ win0_1.index t = ![0, t.val] ∧ win0_2.index t = ![0, 0]
    ∧ win0_3.index t = ![0, 0, t.val] ∧ win0_4.index t = ![0, 0, t.val] ∧ win0_5.index t = ![0, 0, 0] ∧ win0_6.index t = ![0, 0, 0] :=
  (by decide +kernel : ∀ t : Fin grid0.N, _)

/-- The grid's one coordinate is the point's number. -/
theorem coord_eq : ∀ t : Fin cfg0.N, (grid0.coords t 0).val = t.val :=
  (by decide +kernel : ∀ t : Fin grid0.N, _)

/-- The activations' block is the whole argument, at every point. -/
theorem iblk0 (c : Dev nD) (t : Fin cfg0.N) : iblk m c 0 t = m ((c : Thread nD τ).loc main_arg0) := by
  blk_ext! [iblk, V, idx t]

/-- The weights' scales: the whole argument, at every point. -/
theorem iblk2 (c : Dev nD) (t : Fin cfg0.N) : iblk m c 2 t = m ((c : Thread nD τ).loc main_arg2) := by
  blk_ext! [iblk, V, idx t]

/-- Codes and scales after the first point. -/
theorem kept_A (c : Dev nD) (t : Fin cfg0.N) (h0 : t.val % 17 = 0) :
    (outsAt0 m c t.val t.isLt).2.1 = CODEO (iblk m c 0 t)
    ∧ (outsAt0 m c t.val t.isLt).2.2.1 = SCLO (iblk m c 0 t)
    ∧ (outsAt0 m c t.val t.isLt).2.2.2.1 = CODE (iblk m c 0 t)
    ∧ (outsAt0 m c t.val t.isLt).2.2.2.2 = SCL (iblk m c 0 t) := by
  rw [outsAt0_A m c t h0]
  dsimp only
  exact ⟨outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) ((hcond0_0 t).mpr h0),
    outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) ((hcond0_0 t).mpr h0),
    soutA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) ((hcond0_0 t).mpr h0),
    soutA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) ((hcond0_0 t).mpr h0)⟩

/-- Every later point keeps them. -/
theorem kept_B (c : Dev nD) (t : Fin cfg0.N) (h0 : ¬t.val % 17 = 0) :
    (outsAt0 m c t.val t.isLt).2 = (outsAt0 m c (t.val - 1) (Nat.lt_of_le_of_lt (Nat.sub_le _ _) t.isLt)).2 := by
  rw [outsAt0_B m c t h0]
  unfold out0_B_5 out0_B_6 sout0_B_0 sout0_B_1
  rfl

/-- Codes and scales, in the outputs' buffers and in the scratch, after every point: what the first point left there. -/
theorem kept (c : Dev nD) (n : ℕ) (hn : n < cfg0.N) :
    (outsAt0 m c n hn).2.1 = CODEO (m ((c : Thread nD τ).loc main_arg0))
    ∧ (outsAt0 m c n hn).2.2.1 = SCLO (m ((c : Thread nD τ).loc main_arg0))
    ∧ (outsAt0 m c n hn).2.2.2.1 = CODE (m ((c : Thread nD τ).loc main_arg0))
    ∧ (outsAt0 m c n hn).2.2.2.2 = SCL (m ((c : Thread nD τ).loc main_arg0)) := by
  induction n with
  | zero =>
    have h := kept_A m c ⟨0, hn⟩ (Nat.zero_mod _)
    rw [iblk0 m c ⟨0, hn⟩] at h
    exact h
  | succ n ih =>
    have hN : cfg0.N = 17 := N_0
    have h0 : ¬(n + 1) % 17 = 0 := by omega
    rw [show (outsAt0 m c (n + 1) hn).2 = (outsAt0 m c n (Nat.lt_of_succ_lt hn)).2 from kept_B m c ⟨n + 1, hn⟩ h0]
    exact ih (Nat.lt_of_succ_lt hn)

/-- The result's block after point `t`. -/
theorem yAt (c : Dev nD) (t : Fin cfg0.N) (hi : (grid0.coords t 0).val < 17) : (outsAt0 m c t.val t.isLt).1
    = YV (grid0.coords t 0).val hi (iblk m c 1 t) (iblk m c 2 t) (iblk m c 3 t)
        (CODE (m ((c : Thread nD τ).loc main_arg0))) (SCL (m ((c : Thread nD τ).loc main_arg0))) := by
  by_cases h0 : t.val % 17 = 0
  · rw [outsAt0_A m c t h0]
    dsimp only
    refine (outA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) ((hcond0_0 t).mpr h0) hi).trans ?_
    rw [iblk0 m c t]
  · rw [outsAt0_B m c t h0]
    dsimp only
    have ih := kept m c (t.val - 1) (Nat.lt_of_le_of_lt (Nat.sub_le _ _) t.isLt)
    refine (outB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (fun h => h0 ((hcond0_0 t).mp h)) hi (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ?_
    rw [ih.2.2.1, ih.2.2.2]

/-- One entry of the whole result: row `r`, column `z`. -/
def yW (x : Vec Ideal S1x384x3968 .bf16) (w : Vec Ideal S3968x13056 .fp8e4m3) (s : Vec Ideal S31x102 .f32) (b : Vec Ideal S1x384x13056 .bf16)
    (r : Fin 384) (z : Fin 13056) : EReal :=
  (∑ g : Fin 31, (∑ k : Fin 128, codeK x r ⟨128 * g.val + k.val, by omega⟩ * w (ix2 ⟨128 * g.val + k.val, by omega⟩ z))
      * (Pure.scaleS (amaxK x r g) * s (ix2 g ⟨z.val / 128, by omega⟩)))
    + b (ix3 0 r z)

/-- The whole result, as the region's array holds it. -/
def YW (x : Vec Ideal S1x384x3968 .bf16) (w : Vec Ideal S3968x13056 .fp8e4m3) (s : Vec Ideal S31x102 .f32) (b : Vec Ideal S1x384x13056 .bf16) :
    Vec Ideal S48x8x13056 .bf16 :=
  fun j => yW x w s b ⟨(j 0).val * 8 + (j 1).val, by
    have h0 : (j 0).val < 48 := (j 0).isLt
    have h1 : (j 1).val < 8 := (j 1).isLt
    omega⟩ (j 2)

/-- The weights' block at point `t`: columns `768 t` on. -/
theorem iblk1 (c : Dev nD) (t : Fin cfg0.N) (a : Fin 3968) (z : Fin 768) (hz : t.val * 768 + z.val < 13056) :
    (show Vec Ideal S3968x768 .fp8e4m3 from iblk m c 1 t) (ix2 a z)
    = (show Vec Ideal S3968x13056 .fp8e4m3 from m ((c : Thread nD τ).loc main_arg1)) (ix2 a ⟨t.val * 768 + z.val, hz⟩) := by
  blk_ext [iblk, V, idx t]

/-- The residual's block at point `t`: columns `768 t` on. -/
theorem iblk3 (c : Dev nD) (t : Fin cfg0.N) (r : Fin 384) (z : Fin 768) (hz : t.val * 768 + z.val < 13056) :
    (show Vec Ideal S1x384x768 .bf16 from iblk m c 3 t) (ix3 0 r z)
    = (show Vec Ideal S1x384x13056 .bf16 from m ((c : Thread nD τ).loc main_arg3)) (ix3 0 r ⟨t.val * 768 + z.val, hz⟩) := by
  blk_ext [iblk, V, idx t]

/-- An entry of a block is the entry of the whole result at its place. -/
theorem yK_eq (c : Dev nD) (t : Fin cfg0.N) (i : ℕ) (hi : i < 17) (e : i = t.val) (r : Fin 384) (z : Fin 768) (hz : t.val * 768 + z.val < 13056) :
    yK i hi (iblk m c 1 t) (iblk m c 2 t) (iblk m c 3 t)
        (CODE (m ((c : Thread nD τ).loc main_arg0))) (SCL (m ((c : Thread nD τ).loc main_arg0))) r z
    = yW (m ((c : Thread nD τ).loc main_arg0)) (m ((c : Thread nD τ).loc main_arg1)) (m ((c : Thread nD τ).loc main_arg2))
        (m ((c : Thread nD τ).loc main_arg3)) r ⟨t.val * 768 + z.val, hz⟩ := by
  subst e
  unfold yK yW
  refine congr (congrArg HAdd.hAdd (Finset.sum_congr rfl fun g _ => ?_)) (iblk3 m c t r z hz)
  refine congr (congrArg HMul.hMul (Finset.sum_congr rfl fun k _ => ?_)) ?_
  · exact congr (congrArg HMul.hMul rfl) (iblk1 m c t _ z hz)
  · refine congr (congrArg HMul.hMul rfl) ?_
    rw [iblk2 m c t]
    exact congrArg _ (congrArg (ix2 g) (Fin.ext (by show 6 * t.val + z.val / 128 = (t.val * 768 + z.val) / 128; omega)))

/-- An entry of the result's block at point `t` is the entry of the whole result at the place the block gives it. -/
theorem y_point (c : Dev nD) (t : Fin cfg0.N) (y : S48x8x768.Idx) (j : S48x8x13056.Idx) (hj0 : (j 0).val = (y 0).val)
    (hj1 : (j 1).val = (y 1).val) (hj2 : (j 2).val = t.val * 768 + (y 2).val) : (outsAt0 m c t.val t.isLt).1 y
    = YW (m ((c : Thread nD τ).loc main_arg0)) (m ((c : Thread nD τ).loc main_arg1)) (m ((c : Thread nD τ).loc main_arg2)) (m ((c : Thread nD τ).loc main_arg3)) j := by
  have hN : cfg0.N = 17 := N_0
  have ht : t.val < 17 := hN ▸ t.isLt
  have h0 : (y 0).val < 48 := (y 0).isLt
  have h1 : (y 1).val < 8 := (y 1).isLt
  have h2 : (y 2).val < 768 := (y 2).isLt
  have e := coord_eq t
  have hi : (grid0.coords t 0).val < 17 := by rw [e]; exact ht
  rw [yAt m c t hi]
  have key := yK_eq m c t _ hi e ⟨(y 0).val * 8 + (y 1).val, by omega⟩ (y 2) (by omega)
  refine Eq.trans key ?_
  have er : (⟨(y 0).val * 8 + (y 1).val, by omega⟩ : Fin 384) = ⟨(j 0).val * 8 + (j 1).val, by omega⟩ :=
    Fin.ext (show (y 0).val * 8 + (y 1).val = (j 0).val * 8 + (j 1).val by omega)
  have ez : (⟨t.val * 768 + (y 2).val, by omega⟩ : Fin 13056) = j 2 := Fin.ext hj2.symm
  exact congrArg₂ (yW _ _ _ _) er ez

/-- The result's array after the run. -/
theorem final4 (c : Dev nD) : (dats m 0 c).arrAt 4 (cfgs 0).N
    = YW (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine y_point m c t y _ ?_ ?_ ?_
  · blk_simp [idx t]
  · blk_simp [idx t]
  · blk_simp [idx t]

/-- The last grid point. -/
def tLast : Fin cfg0.N := ⟨16, by have h : cfg0.N = 17 := N_0; omega⟩

/-- The codes' array after the run. -/
theorem final5 (c : Dev nD) : (dats m 0 c).arrAt 5 (cfgs 0).N = CODEO (m ((c : Thread nD τ).loc main_arg0)) := by
  refine (dats m 0 c).arrAt_eq_of_after_last 5 tLast (by decide +kernel) _ fun j => ?_
  blk_simp
  rw [after0_5, (kept m c _ _).1]
  try blk_ext [idx tLast]

/-- The scales' array after the run. -/
theorem final6 (c : Dev nD) : (dats m 0 c).arrAt 6 (cfgs 0).N = SCLO (m ((c : Thread nD τ).loc main_arg0)) := by
  refine (dats m 0 c).arrAt_eq_of_after_last 6 tLast (by decide +kernel) _ fun j => ?_
  blk_simp
  rw [after0_6, (kept m c _ _).2.1]
  try blk_ext [idx tLast]

end Cert.KernelIdeal.Hand

end
-- ==== Proof.KerRun.lean ====
module

public import proofs.«01_k».proof.Proof.Arrays
public import Idealize.ShloMosaic.Lib.Pipeline.FrameTail

/-! The kernel's run: its three results, through the reshape and the transpose after the region. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first result after the lines that follow the region: the region's array, reshaped. -/
theorem tail_v1 (c : Dev nD) : Pipeline.afterTail₀ cfgs (dats m) 0 (V0 m) [hostOps1] c main_v1
    = shapeCast S1x384x13056 (YW (m ((c : Thread nD τ).loc main_arg0)) (m ((c : Thread nD τ).loc main_arg1)) (m ((c : Thread nD τ).loc main_arg2)) (m ((c : Thread nD τ).loc main_arg3))) shapeCasts_S48x8x13056_S1x384x13056 := by
  unfold Pipeline.afterTail₀
  show StableHlo.after hostOps1 _ _ = _
  after_region_results
  erw [Pipeline.withArrays_arr spec0 launch0.win.arr_inj c (V0 m c) _ 4]
  rw [final4 m c]
  rfl

/-- The third result after the lines that follow the region: the region's array, transposed. -/
theorem tail_v2 (c : Dev nD) : Pipeline.afterTail₀ cfgs (dats m) 0 (V0 m) [hostOps1] c main_v2
    = transpose S1x384x31 [1, 2, 0] (SCLO (m ((c : Thread nD τ).loc main_arg0))) transposes_S31x1x384_S1x384x31_1_2_0 := by
  unfold Pipeline.afterTail₀
  show StableHlo.after hostOps1 _ _ = _
  after_region_results
  erw [Pipeline.withArrays_arr spec0 launch0.win.arr_inj c (V0 m c) _ 6]
  rw [final6 m c]

/-- THE KERNEL'S RUN: from any memory with zero counters it ends with the three results as these functions of the
    arguments, and the arguments unchanged. -/
theorem run : θ_run defs (onTc (τ := τ) (main (F := Ideal))) ⟨m, fun _ => 0, ρ⟩ fun r => ∀ c : Dev nD,
      r.2.mem ((c : Thread nD τ).loc main_v1) = shapeCast S1x384x13056 (YW (m ((c : Thread nD τ).loc main_arg0)) (m ((c : Thread nD τ).loc main_arg1)) (m ((c : Thread nD τ).loc main_arg2)) (m ((c : Thread nD τ).loc main_arg3))) shapeCasts_S48x8x13056_S1x384x13056
      ∧ r.2.mem ((c : Thread nD τ).loc main_v0_1) = CODEO (m ((c : Thread nD τ).loc main_arg0))
      ∧ r.2.mem ((c : Thread nD τ).loc main_v2) = transpose S1x384x31 [1, 2, 0] (SCLO (m ((c : Thread nD τ).loc main_arg0))) transposes_S31x1x384_S1x384x31_1_2_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.rest_eq c main_v1 (by decide)).trans (tail_v1 m c),
      (h.1.out_eq c 5).trans (final5 m c),
      (h.1.rest_eq c main_v2 (by decide)).trans (tail_v2 m c),
      h.2 c⟩)
    (θ_run_and (run_main m ρ) (unchanged m ρ))

end Cert.KernelIdeal.Hand

end
-- ==== Proof.RefRead.lean ====
module

public import proofs.«01_k».proof.Proof.Pure
public import proofs.«01_k».proof.Proof.Gen.ReferenceIdeal.Skeleton

/-! The reference's three results read at an index, over the extended reals. -/

@[expose] public section

set_option maxRecDepth 16384

noncomputable section

namespace Cert.ReferenceIdeal.Hand

open Cert.ReferenceIdeal Cert.ReferenceIdeal.Gen
open Idealize.ShloMosaic Idealize.ShloMosaic.TcCoe
open scoped BigOperators

variable {F : FTy → Type} [FloatOps F]

/-- The row maxima of every group. -/
def rMax (x : Vec F S1x384x3968 .bf16) : FVec F S384x31 .f32 :=
  multiReduction .maximumf [2] S384x31 (absf (k0_pay4 x)) 0xFF800000#32 reduces_S384x31x128_S384x31 (.inl rfl) rfl

/-- Over the greatest code. -/
def rRatio (a : FVec F S384x31 .f32) : FVec F S384x31x1 .f32 :=
  mulf (shapeCast S384x31x1 a shapeCasts_S384x31_S384x31x1) (broadcast S384x31x1 (Scalar.ofBits .f32 0x3B124925#32))

/-- The candidate exponents. -/
def rInts : FVec F S384x31x252 .f32 :=
  sitofp .f32 (subi (iota .tc S384x31x252 32 [2] iota_S384x31x252_d2_w32) (broadcast S384x31x252 126#32))

/-- The candidates not above the ratio. -/
def rCand (t : FVec F S384x31x1 .f32) : FVec F S384x31x252 .f32 :=
  select (cmpf .oge (broadcastTo S384x31x252 t broadcasts_S384x31x1_S384x31x252) (exp2 rInts)) rInts (broadcast S384x31x252 (Scalar.ofBits .f32 0xC2FC0000#32))

/-- The greatest of them. -/
def rScan (t : FVec F S384x31x1 .f32) : FVec F S384x31 .f32 :=
  multiReduction .maximumf [2] S384x31 (rCand t) 0xFF800000#32 reduces_S384x31x252_S384x31 (.inl rfl) rfl

/-- The exponent, guarded. -/
def rExp (t : FVec F S384x31x1 .f32) (n : FVec F S384x31 .f32) : FVec F S384x31x1 .f32 :=
  select (andi (cmpf .oge t (broadcast S384x31x1 (Scalar.ofBits .f32 0x00800000#32))) (cmpf .olt t (broadcast S384x31x1 (Scalar.ofBits .f32 0x7F800000#32))))
    (addf (shapeCast S384x31x1 n shapeCasts_S384x31_S384x31x1) (broadcast S384x31x1 (Scalar.ofBits .f32 0x3F800000#32)))
    (broadcast S384x31x1 (Scalar.ofBits .f32 0x00000000#32))

/-- The reference's exponent is those in turn. -/
theorem pay5_eq (x : Vec F S1x384x3968 .bf16) : k0_pay5 x = rExp (rRatio (rMax x)) (rScan (rRatio (rMax x))) := rfl

/-- The row maxima at an index. -/
theorem rMax_apply (x : Vec Ideal S1x384x3968 .bf16) (r : Fin 384) (g : Fin 31) :
    rMax (F := Ideal) x (ix2 r g) = Pure.rowMaxS fun k => x (ix3 0 r ⟨g.val * 128 + k.val, by omega⟩) := by
  pointwise [rMax, k0_pay4]
  rfl

/-- The ratio at an index. -/
theorem rRatio_apply (a : FVec Ideal S384x31 .f32) (r : Fin 384) (g : Fin 31) :
    rRatio (F := Ideal) a (ix3 r g 0) = Pure.ratS (a (ix2 r g)) := by
  pointwise [rRatio]
  rfl

/-- The candidates at an index. -/
theorem rInts_apply (r : Fin 384) (g : Fin 31) (k : Fin 252) :
    rInts (F := Ideal) (ix3 r g k) = ((((k.val : ℤ) - 126 : ℤ) : ℝ) : EReal) := by
  pointwise [rInts]
  show ((((IntOp.subi (BitVec.ofNat 32 k.val) 126#32).toInt : ℝ)) : EReal) = _
  rw [Pure.toInt_sub]

/-- The candidates not above the ratio at an index. -/
theorem rCand_apply (t : FVec Ideal S384x31x1 .f32) (r : Fin 384) (g : Fin 31) (k : Fin 252) :
    rCand (F := Ideal) t (ix3 r g k) = if Pure.pow2 ((k.val : ℤ) - 126) ≤ t (ix3 r g 0) then ((((k.val : ℤ) - 126 : ℤ) : ℝ) : EReal) else (((-126 : ℤ) : ℝ) : EReal) := by
  pointwise [rCand]
  rw [Pure.ofBits_m126, rInts_apply, ← Pure.exp2_int]
  rfl

/-- The greatest of them at an index. -/
theorem rScan_apply (t : FVec Ideal S384x31x1 .f32) (r : Fin 384) (g : Fin 31) :
    rScan (F := Ideal) t (ix2 r g) = Pure.scanS (t (ix3 r g 0)) := by
  pointwise [rScan]
  unfold Pure.scanS
  rw [Pure.ofBits_bot]
  congr 1
  funext k
  exact rCand_apply t r g k

/-- The exponent at an index. -/
theorem rExp_apply (t : FVec Ideal S384x31x1 .f32) (n : FVec Ideal S384x31 .f32) (r : Fin 384) (g : Fin 31) (h : n (ix2 r g) = Pure.scanS (t (ix3 r g 0))) :
    rExp (F := Ideal) t n (ix3 r g 0) = Pure.expR (t (ix3 r g 0)) := by
  pointwise [rExp]
  rw [Pure.select_and, Pure.ofBits_min, Pure.ofBits_top, h]
  rfl

/-- The row maximum of row `r` in group `g`. -/
def amaxS (x : Vec Ideal S1x384x3968 .bf16) (r : Fin 384) (g : Fin 31) : EReal :=
  Pure.rowMaxS fun k => x (ix3 0 r ⟨g.val * 128 + k.val, by omega⟩)

/-- The reference's exponent at an index. -/
theorem pay5_apply (x : Vec Ideal S1x384x3968 .bf16) (r : Fin 384) (g : Fin 31) :
    k0_pay5 (F := Ideal) x (ix3 r g 0) = Pure.expR (Pure.ratS (amaxS x r g)) := by
  rw [pay5_eq, rExp_apply _ _ r g (rScan_apply _ r g), rRatio_apply, rMax_apply]
  rfl

/-- The reference's scale at an index. -/
theorem pay6_apply (x : Vec Ideal S1x384x3968 .bf16) (r : Fin 384) (g : Fin 31) :
    k0_pay6 (F := Ideal) x (ix3 r g 0) = Pure.scaleS (amaxS x r g) := by
  rw [Pure.scaleS_eq, ← pay5_apply]
  rfl

/-- The reference's codes, grouped, at an index. -/
theorem pay7_apply (x : Vec Ideal S1x384x3968 .bf16) (r : Fin 384) (g : Fin 31) (k : Fin 128) :
    k0_pay7 (F := Ideal) x (ix3 r g k) = Pure.codeS (x (ix3 0 r ⟨g.val * 128 + k.val, by omega⟩)) (Pure.invS (amaxS x r g)) := by
  rw [Pure.invS_eq, ← pay5_apply]
  pointwise [k0_pay7, k0_pay4]
  rfl

/-- The reference's codes result at an index. -/
theorem pay8_apply (x : Vec Ideal S1x384x3968 .bf16) (r : Fin 384) (c : Fin 3968) :
    k0_pay8 (F := Ideal) x (ix3 0 r c) = k0_pay7 (F := Ideal) x (ix3 r ⟨c.val / 128, by omega⟩ ⟨c.val % 128, by omega⟩) := by
  pointwise [k0_pay8]

/-- The reference's scales result at an index. -/
theorem pay2_apply (v : FVec Ideal S384x31x1 .f32) (r : Fin 384) (g : Fin 31) :
    k0_pay2 (F := Ideal) v (ix3 0 r g) = v (ix3 r g 0) := by
  pointwise [k0_pay2, k0_pay1]

/-- The reference's product at an index: the sum over the groups, and the residual. -/
theorem pay3_apply (v28 : FVec Ideal S384x31x1 .f32) (v38 : FVec Ideal S384x31x128 .fp8e4m3) (v45 : Vec Ideal S3968x13056 .fp8e4m3) (v48 : Vec Ideal S31x102 .f32)
    (v60 : Vec Ideal S1x384x13056 .bf16) (r : Fin 384) (c : Fin 13056) :
    k0_pay3 (F := Ideal) v28 v38 v45 v48 v60 (ix3 0 r c)
      = (∑ g : Fin 31, (∑ k : Fin 128, v38 (ix3 r g k) * v45 (ix2 ⟨g.val * 128 + k.val, by omega⟩ c)) * v28 (ix3 r g 0) * v48 (ix2 g ⟨c.val / 128, by omega⟩))
        + v60 (ix3 0 r c) := by
  pointwise [k0_pay1, k0_pay3]

end Cert.ReferenceIdeal.Hand

end
-- ==== Proof.Equation.lean ====
module

public import proofs.«01_k».proof.Proof.KerRun
public import proofs.«01_k».proof.Proof.RefRead
public import proofs.«01_k».proof.Proof.Gen.ReferenceIdeal.Value

/-! The three equations: what the reference computes is what the kernel computes. -/

@[expose] public section

set_option maxRecDepth 16384

noncomputable section

namespace Cert.Equation

open Idealize.ShloMosaic Idealize.ShloMosaic.TcCoe
open Cert.KernelIdeal.Hand
open scoped BigOperators

variable (x : Vec Ideal Cert.ReferenceIdeal.S1x384x3968 .bf16) (w : Vec Ideal Cert.ReferenceIdeal.S3968x13056 .fp8e4m3)
  (s : Vec Ideal Cert.ReferenceIdeal.S31x102 .f32) (b : Vec Ideal Cert.ReferenceIdeal.S1x384x13056 .bf16)

/-- An index of an array with one leading entry. -/
theorem ix_lead {n1 n2 : ℕ} (j : (⟨3, ![1, n1, n2]⟩ : Shape).Idx) : j = ix3 0 (j 1) (j 2) := by
  have h : (j 0).val < 1 := (j 0).isLt
  refine (eq_ix3 j).trans (congrArg (fun a : Fin 1 => ix3 a (j 1) (j 2)) (Fin.ext ?_))
  show (j 0).val = 0
  omega

/-- Two arrays with one leading entry that agree at every row and column are the same. -/
theorem ext_lead {α : Type} {n1 n2 : ℕ} (f g : (⟨3, ![1, n1, n2]⟩ : Shape).Idx → α) (h : ∀ (r : Fin n1) (a : Fin n2), f (ix3 0 r a) = g (ix3 0 r a)) : f = g := by
  funext j
  rw [ix_lead j]
  exact h _ _

/-- The reference's scales, named apart, are its scales of the activations. -/
theorem pay9_eq : Cert.ReferenceIdeal.Gen.k0_pay9 (F := Ideal) x w s b = Cert.ReferenceIdeal.Gen.k0_pay6 x := by
  unfold Cert.ReferenceIdeal.Gen.k0_pay9
  rw [View.ld_unit_zero Cert.ReferenceIdeal.Value.hz0]

/-- The kernel's code of row `r` in group `g`, place `k`, is the reference's. -/
theorem code_eq (r : Fin 384) (g : Fin 31) (k : Fin 128) (a : Fin 3968) (ha : a.val = 128 * g.val + k.val) :
    codeK x r a = Cert.ReferenceIdeal.Gen.k0_pay7 (F := Ideal) x (ix3 r g k) := by
  rw [Cert.ReferenceIdeal.Hand.pay7_apply]
  unfold codeK
  have e1 : a = ⟨g.val * 128 + k.val, by omega⟩ := Fin.ext (show a.val = g.val * 128 + k.val by omega)
  have e2 : (⟨a.val / 128, by omega⟩ : Fin 31) = g := Fin.ext (show a.val / 128 = g.val by omega)
  rw [e2]
  exact congrArg (fun q => Pure.codeS (x (ix3 0 r q)) (Pure.invS (amaxK x r g))) e1

/-- The codes. -/
theorem codes : CODEO x = Cert.ReferenceIdeal.Value.G5 x w s b := by
  refine ext_lead (n1 := 384) (n2 := 3968) _ _ fun r a => ?_
  refine Eq.trans ?_ (Cert.ReferenceIdeal.Hand.pay8_apply x r a).symm
  exact code_eq x r ⟨a.val / 128, by omega⟩ ⟨a.val % 128, by omega⟩ a (by show a.val = 128 * (a.val / 128) + a.val % 128; omega)

/-- The kernel's scales at row `r`, group `g`. -/
theorem scale_at (r : Fin 384) (g : Fin 31) :
    transpose Cert.KernelIdeal.S1x384x31 [1, 2, 0] (SCLO x) Cert.KernelIdeal.Gen.transposes_S31x1x384_S1x384x31_1_2_0 (ix3 0 r g)
      = Pure.scaleS (amaxK x r g) := by
  have h : transpose Cert.KernelIdeal.S1x384x31 [1, 2, 0] (SCLO x) Cert.KernelIdeal.Gen.transposes_S31x1x384_S1x384x31_1_2_0 (ix3 0 r g)
      = SCLO x (ix3 g 0 r) := by pointwise
  exact h

/-- The scales. -/
theorem scales : transpose Cert.KernelIdeal.S1x384x31 [1, 2, 0] (SCLO x) Cert.KernelIdeal.Gen.transposes_S31x1x384_S1x384x31_1_2_0
    = Cert.ReferenceIdeal.Value.G6 x w s b := by
  refine ext_lead (n1 := 384) (n2 := 31) _ _ fun r g => ?_
  rw [Cert.ReferenceIdeal.Value.G6, pay9_eq]
  exact (scale_at x r g).trans ((Cert.ReferenceIdeal.Hand.pay2_apply _ r g).trans (Cert.ReferenceIdeal.Hand.pay6_apply x r g)).symm

/-- One entry of the product and the residual. -/
theorem y_eq (r : Fin 384) (z : Fin 13056) : yW x w s b r z = Cert.ReferenceIdeal.Value.G4 x w s b (ix3 0 r z) := by
  rw [Cert.ReferenceIdeal.Value.G4, pay9_eq, Cert.ReferenceIdeal.Hand.pay3_apply]
  unfold yW
  refine congr (congrArg HAdd.hAdd (Finset.sum_congr rfl fun g _ => ?_)) rfl
  rw [Cert.ReferenceIdeal.Hand.pay6_apply, mul_assoc]
  refine congr (congrArg HMul.hMul (Finset.sum_congr rfl fun k _ => ?_)) rfl
  rw [code_eq x r g k ⟨128 * g.val + k.val, by omega⟩ rfl]
  refine congrArg _ (congrArg w (congrArg (fun a => ix2 a z) (Fin.ext ?_)))
  show 128 * g.val + k.val = g.val * 128 + k.val
  omega

/-- The kernel's product and residual at row `r`, column `z`: the eight rows that the array holds apart, put together. -/
theorem y_at (r : Fin 384) (z : Fin 13056) :
    shapeCast Cert.KernelIdeal.S1x384x13056 (YW x w s b) Cert.KernelIdeal.Gen.shapeCasts_S48x8x13056_S1x384x13056 (ix3 0 r z) = yW x w s b r z := by
  have h : shapeCast Cert.KernelIdeal.S1x384x13056 (YW x w s b) Cert.KernelIdeal.Gen.shapeCasts_S48x8x13056_S1x384x13056 (ix3 0 r z)
      = YW x w s b (ix3 ⟨r.val / 8, by omega⟩ ⟨r.val % 8, by omega⟩ z) := by pointwise
  refine h.trans ?_
  exact congrArg (fun q => yW x w s b q z) (Fin.ext (show r.val / 8 * 8 + r.val % 8 = r.val by omega))

/-- The product and the residual. -/
theorem products : shapeCast Cert.KernelIdeal.S1x384x13056 (YW x w s b) Cert.KernelIdeal.Gen.shapeCasts_S48x8x13056_S1x384x13056
    = Cert.ReferenceIdeal.Value.G4 x w s b :=
  ext_lead (n1 := 384) (n2 := 13056) _ _ fun r z => (y_at x w s b r z).trans (y_eq x w s b r z)

end Cert.Equation

end
-- ==== Proof.KernelFrame.lean ====
module

public import proofs.«01_k».proof.Defs
public import proofs.«01_k».proof.Proof.Gen.Kernel
public import proofs.«01_k».proof.Proof.Frame
public import Idealize.ShloMosaic.Lib.Tactic

/-! The frame of the kernel as compiled. Its program and the idealized one are the same text (no operation was rewritten),
    so the frame proved of the one, at any float values, is the frame of the other. -/

@[expose] public section

set_option maxRecDepth 16384

noncomputable section

namespace Cert.KernelFrame

open Idealize.ShloMosaic Idealize.ShloMosaic.TcCoe Idealize.SL.Sem Idealize.ShloMosaic.Tactic

/-- The idealized program's frame, read at bit-level floats. -/
def Stmt : Prop :=
  ∀ (m : (ℓ : Loc Cert.KernelIdeal.nD Cert.KernelIdeal.τ Cert.KernelIdeal.sig) → Buf (Elt Bits) ℓ) (g : Dev Cert.KernelIdeal.nD → PrngReg),
    Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two statements are the same. -/
theorem stmt_eq : Stmt = Cert.quiescent_Kernel (hKernel := Cert.Kernel.Gen.facts) := by sl_kernel_rfl

/-- The compiled kernel's frame. -/
theorem frame : Cert.quiescent_Kernel (hKernel := Cert.Kernel.Gen.facts) :=
  stmt_eq ▸ (fun m g _ => Cert.KernelIdeal.Hand.frame (F := Bits) m g : Stmt)

end Cert.KernelFrame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import proofs.«01_k».proof.Proof.KernelFrame
public import Idealize.ShloMosaic.Adequacy
public import Idealize.ShloMosaic.Init

@[expose] public section

noncomputable section

namespace Cert.Proof

open Idealize.ShloMosaic Idealize.ShloMosaic.TcCoe Idealize.SL.Sem

/-- Kernel and reference end with the same three results, over the extended reals, from equal arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, Cert.KernelIdeal.Hand.run m g, ?_⟩
  refine (θ_run _ _ _).mono (fun r h c => ?_) (Cert.ReferenceIdeal.Value.run (F := Ideal) m' g')
  obtain ⟨h0, h1, h2, h3⟩ := hargs c
  obtain ⟨r0, r1, r2, ra⟩ := h c
  rw [h0, h1, h2, h3] at r0 r1 r2
  exact ⟨r0.trans (Cert.Equation.products _ _ _ _).symm, r1.trans (Cert.Equation.codes _ _ _ _).symm,
    r2.trans (Cert.Equation.scales _ _ _ _).symm, ra⟩

/-- The five claims: three frames, the idealization, and the equality of the results. -/
theorem claim : Cert.Claim :=
  ⟨Cert.Kernel.Gen.facts, Cert.KernelIdeal.Gen.facts, Cert.ReferenceIdeal.Gen.facts,
    Cert.KernelFrame.frame,
    fun m ρ _ => Cert.KernelIdeal.Hand.frame m ρ,
    fun m ρ _ => Cert.ReferenceIdeal.Gen.frame m ρ,
    trivial,
    algebraic⟩

end Cert.Proof

end
